-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S8x512x1024 : Shape := ⟨3, ![8, 512, 1024]⟩
abbrev S8 : Shape := ⟨1, ![8]⟩
abbrev S8x1x1024 : Shape := ⟨3, ![8, 1, 1024]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1x1024, .f32⟩
  | .local _ .vmem, ⟨1, _⟩ => ⟨S8x512x1024, .f32⟩
  | .local _ .vmem, ⟨2, _⟩ => ⟨S8x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : Index := Scalar.indexCast v2
  let c0_142 : Index := 0#32
  let c0_143 : Index := 0#32
  ![v154.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_149 : BitVec 32 := 0#32
  let c0_i32_150 : BitVec 32 := 0#32
  ![v2.toNat, 0, 0]
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v158 : BitVec 32 := Scalar.addi v2 c1_i32_144
  let c8_i32_145 : BitVec 32 := 8#32
  let v159 : BitVec 32 := Scalar.remsi v158 c8_i32_145
  let c1_i32_147 : BitVec 32 := 1#32
  let v160 : BitVec 32 := Scalar.muli v159 c1_i32_147
  let v161 : BitVec 32 := Scalar.addi c0_i32_148 v160
  v161.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let v170 : BitVec 32 := Scalar.addi v2 c2_i32_153
  let c8_i32_154 : BitVec 32 := 8#32
  let v171 : BitVec 32 := Scalar.remsi v170 c8_i32_154
  let c1_i32_156 : BitVec 32 := 1#32
  let v172 : BitVec 32 := Scalar.muli v171 c1_i32_156
  let v173 : BitVec 32 := Scalar.addi c0_i32_157 v172
  v173.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_162 : BitVec 32 := 3#32
  let v182 : BitVec 32 := Scalar.addi v2 c3_i32_162
  let c8_i32_163 : BitVec 32 := 8#32
  let v183 : BitVec 32 := Scalar.remsi v182 c8_i32_163
  let c1_i32_165 : BitVec 32 := 1#32
  let v184 : BitVec 32 := Scalar.muli v183 c1_i32_165
  let v185 : BitVec 32 := Scalar.addi c0_i32_166 v184
  v185.toNat
def k0_dev11 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v194 : BitVec 32 := Scalar.addi v2 c4_i32_171
  let c8_i32_172 : BitVec 32 := 8#32
  let v195 : BitVec 32 := Scalar.remsi v194 c8_i32_172
  let c1_i32_174 : BitVec 32 := 1#32
  let v196 : BitVec 32 := Scalar.muli v195 c1_i32_174
  let v197 : BitVec 32 := Scalar.addi c0_i32_175 v196
  v197.toNat
def k0_dev12 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v206 : BitVec 32 := Scalar.addi v2 c5_i32_180
  let c8_i32_181 : BitVec 32 := 8#32
  let v207 : BitVec 32 := Scalar.remsi v206 c8_i32_181
  let c1_i32_183 : BitVec 32 := 1#32
  let v208 : BitVec 32 := Scalar.muli v207 c1_i32_183
  let v209 : BitVec 32 := Scalar.addi c0_i32_184 v208
  v209.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_189 : BitVec 32 := 6#32
  let v218 : BitVec 32 := Scalar.addi v2 c6_i32_189
  let c8_i32_190 : BitVec 32 := 8#32
  let v219 : BitVec 32 := Scalar.remsi v218 c8_i32_190
  let c1_i32_192 : BitVec 32 := 1#32
  let v220 : BitVec 32 := Scalar.muli v219 c1_i32_192
  let v221 : BitVec 32 := Scalar.addi c0_i32_193 v220
  v221.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_198 : BitVec 32 := 7#32
  let v230 : BitVec 32 := Scalar.addi v2 c7_i32_198
  let c8_i32_199 : BitVec 32 := 8#32
  let v231 : BitVec 32 := Scalar.remsi v230 c8_i32_199
  let c1_i32_201 : BitVec 32 := 1#32
  let v232 : BitVec 32 := Scalar.muli v231 c1_i32_201
  let v233 : BitVec 32 := Scalar.addi c0_i32_202 v232
  v233.toNat
def k0_off4 (d0 : Dev nD) (c1_i32_207 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v242 : BitVec 32 := Scalar.addi v2 c1_i32_207
  let c8_i32_208 : BitVec 32 := 8#32
  let v243 : BitVec 32 := Scalar.remsi v242 c8_i32_208
  ![v243.toNat]
def k0_off5 (d0 : Dev nD) (c1_i32_207 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v242 : BitVec 32 := Scalar.addi v2 c1_i32_207
  let c8_i32_208 : BitVec 32 := 8#32
  let v243 : BitVec 32 := Scalar.remsi v242 c8_i32_208
  let c0_i32_212 : BitVec 32 := 0#32
  let c0_i32_213 : BitVec 32 := 0#32
  ![v243.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Protocol.lean ====
/-
# The exchange of partial sums among the eight devices: cells, schedule and levels

Every device adds up the rows of its own block (eight local copies into a buffer of eight slots), writes the sum into its
own row of the table `cc0_scratch2`, sends that row to the same row of the seven other devices' tables, and adds up the
eight rows of its table.

Each semaphore is one cell of the rounds library, of which only round 0 is used:
- the barrier cell of a device has one duty per peer, one unit each, and a peer's duty hands over that PEER's row for the
  device: leave to write it;
- the cell of copy `i` has one duty, handing over slot `i` filled and the block's rows back;
- the send cell `k` has one duty, handing back the share of the device's own row that transfer `k` read;
- the receive cell `s` has one duty, paid by device `s`, handing over row `s` of the table filled with the sum of device `s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra -/

/-- The ghost state of the rounds, -/
abbrev UB : Type := URounds (GSem nD τ sig) (Dev nD)
/-- beside that of the pipeline. -/
abbrev UU : Type := UR sig nD τ × UB

local notation "𝕄" => MT nD τ sig Unit (Elt F) ℕ UU ℕ

/-- Where the pipeline's lies in the whole, -/
abbrev EP : Emb (UR sig nD τ) (MT nD τ sig Unit (Elt F) ℕ UU ℕ) := embL
/-- and where the rounds' does. -/
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The peers of a device -/

set_option backward.proofsInPublic true in
/-- The device `k + 1` places after `c`. -/
def peer (c : Dev nD) (k : Fin 7) : Dev nD := ⟨(c.val + (k.val + 1)) % 8, Nat.mod_lt _ (by decide)⟩

/-- No device is its own peer; -/
theorem peer_ne (c : Dev nD) (k : Fin 7) : peer c k ≠ c := by revert c k; decide
/-- its seven peers are distinct; -/
theorem peer_inj (c : Dev nD) : Function.Injective (peer c) := by revert c; decide
/-- two devices have distinct `k`-th peers; -/
theorem peer_inj_left (k : Fin 7) : Function.Injective fun c => peer c k := by revert k; decide
/-- and the other devices are its peers. -/
theorem others_eq (c : Dev nD) : Finset.univ.erase c = Finset.univ.map ⟨peer c, peer_inj c⟩ := by revert c; decide
/-- The peers counted from the far side: `peer c k` has `c` as its peer `6 - k`. -/
theorem peer_peer (c : Dev nD) (k : Fin 7) : peer (peer c k) k.rev = c := by revert c k; decide

/-! ## Buffers and their pieces -/

/-- The argument, -/
abbrev aM : Memref sig .tc .hbm S4096x1024 .f32 := Memref.whole main_arg0
/-- the buffer of slots, -/
abbrev bM : Memref sig .tc .vmem S8x512x1024 .f32 := Memref.whole cc0_scratch0
/-- the table of sums, -/
abbrev gM : Memref sig .tc .vmem S8x1x1024 .f32 := Memref.whole cc0_scratch2
/-- and the result's staging buffer. -/
abbrev oM : Memref sig .tc .vmem S1x1024 .f32 := Memref.whole cc0_stg0_0

/-- 512 rows of the argument from the offsets `off`; -/
abbrev aAt (off : Fin 2 → ℕ) (h : ∀ a, off a + S512x1024.size a ≤ S4096x1024.size a) : Memref sig .tc .hbm S512x1024 .f32 :=
  aM.slice (Rect.unit (s := S4096x1024) off S512x1024.size h) (fun _ => rfl)
/-- one slot of the buffer; -/
abbrev bAt (off : Fin 3 → ℕ) (h : ∀ a, off a + S1x512x1024.size a ≤ S8x512x1024.size a) : Memref sig .tc .vmem S512x1024 .f32 :=
  (bM.slice (Rect.unit (s := S8x512x1024) off S1x512x1024.size h) (fun _ => rfl)).squeeze S512x1024 squeezes_S1x512x1024_S512x1024
/-- one row of the table; -/
abbrev gAt (off : Fin 3 → ℕ) (h : ∀ a, off a + S1x1x1024.size a ≤ S8x1x1024.size a) : Memref sig .tc .vmem S1x1024 .f32 :=
  (gM.slice (Rect.unit (s := S8x1x1024) off S1x1x1024.size h) (fun _ => rfl)).squeeze S1x1024 squeezes_S1x1x1024_S1x1024
/-- one semaphore of an array of eight. -/
abbrev semAt (A : DmaSems sig S8) (off : Fin 1 → ℕ) (h : ∀ a, off a + S1.size a ≤ S8.size a) : DmaSem sig :=
  ((A.slice (Rect.unit (s := S8) off S1.size h)).squeeze S_ squeezes_S1_S_).sem

/-- The blocks lie within the argument, -/
theorem aInb (i : Fin 8) : ∀ a, (![512 * i.val, 0] : Fin 2 → ℕ) a + S512x1024.size a ≤ S4096x1024.size a := by revert i; decide
/-- the slots within the buffer, -/
theorem bInb (i : Fin 8) : ∀ a, (![i.val, 0, 0] : Fin 3 → ℕ) a + S1x512x1024.size a ≤ S8x512x1024.size a := by revert i; decide
/-- the rows within the table, -/
theorem gInb (s : Fin 8) : ∀ a, (![s.val, 0, 0] : Fin 3 → ℕ) a + S1x1x1024.size a ≤ S8x1x1024.size a := by revert s; decide
/-- and the semaphores within their arrays. -/
theorem semInb (i : Fin 8) : ∀ a, (![i.val] : Fin 1 → ℕ) a + S1.size a ≤ S8.size a := by revert i; decide

/-- Rows `512 i …` of the argument. -/
abbrev aBlk (i : Fin 8) : Memref sig .tc .hbm S512x1024 .f32 := aAt ![512 * i.val, 0] (aInb i)
/-- Slot `i` of the buffer. -/
abbrev bSlot (i : Fin 8) : Memref sig .tc .vmem S512x1024 .f32 := bAt ![i.val, 0, 0] (bInb i)
/-- Row `s` of the table. -/
abbrev gRow (s : Fin 8) : Memref sig .tc .vmem S1x1024 .f32 := gAt ![s.val, 0, 0] (gInb s)

/-! ## Cells -/

/-- The barrier semaphore, which is the runtime's: no scope of the kernel's own. -/
abbrev barS : Sem sig := (SemArray.scalar (sig.barrier 0 rfl) : Sems sig S_).sem

/-- The semaphores of one core as this proof numbers them: the barrier (`none`), copy `i` (`(0, i)`), send `k` (`(1, k)`),
    receive `s` (`(2, s)`). -/
abbrev Slot : Type := Option (Fin 3 × Fin 8)

set_option backward.proofsInPublic true in
/-- The kernel's own 24 semaphores. -/
def osem (x : Fin 3 × Fin 8) : SemLoc sig := .dma ⟨1 + 8 * x.1.val + x.2.val, by
  have h1 := x.1.isLt; have h2 := x.2.isLt; show _ < 25; omega⟩

/-- A semaphore by its number; -/
def csem : Slot → SemLoc sig
  | none => .reg barS
  | some x => osem x

/-- that semaphore on device `d`. -/
abbrev cell (d : Dev nD) (s : Slot) : GSem nD τ sig := ((d : Thread nD τ), csem s)

set_option backward.proofsInPublic true in
/-- Which of them a semaphore is; `none` for the pipeline's own. -/
def slotOf : SemLoc sig → Option Slot
  | .reg _ => some none
  | .dma q => if h : q.val = 0 then none else
      some (some (⟨(q.val - 1) / 8, by have hq : q.val < 25 := q.isLt; omega⟩, ⟨(q.val - 1) % 8, Nat.mod_lt _ (by decide)⟩))

/-- The number of a numbered semaphore is its own; -/
theorem slotOf_csem : ∀ s : Slot, slotOf (csem s) = some s := by decide

/-- distinct numbers are distinct semaphores; -/
theorem csem_injective : Function.Injective csem := fun s s' h =>
  Option.some.inj (by rw [← slotOf_csem s, ← slotOf_csem s', h])

/-- and two cells are one only if device and number agree. -/
theorem cell_eq_iff {d d' : Dev nD} {s s' : Slot} : cell d s = cell d' s' ↔ d = d' ∧ s = s' :=
  ⟨fun h => ⟨Fin.ext (congrArg (fun g : GSem nD τ sig => g.1.1.val) h), csem_injective (congrArg Prod.snd h)⟩,
    fun h => by rw [h.1, h.2]⟩

/-- The printed copy semaphores, whose index is a literal or computed from the device, by the number their offset has. -/
theorem copySem_eq (i : Fin 8) {off : Fin 1 → ℕ} (h) (ho : off = ![i.val]) :
    (SemLoc.dma (semAt cc0_scratch1 off h) : SemLoc sig) = csem (some (0, i)) := by subst ho; revert i; decide
/-- The same of the send semaphores, -/
theorem sendSem_eq (i : Fin 8) {off : Fin 1 → ℕ} (h) (ho : off = ![i.val]) :
    (SemLoc.dma (semAt cc0_scratch3 off h) : SemLoc sig) = csem (some (1, i)) := by subst ho; revert i; decide
/-- and of the receive semaphores. -/
theorem recvSem_eq (i : Fin 8) {off : Fin 1 → ℕ} (h) (ho : off = ![i.val]) :
    (SemLoc.dma (semAt cc0_scratch4 off h) : SemLoc sig) = csem (some (2, i)) := by subst ho; revert i; decide

/-! ## Amounts -/

/-- What a copy of 512 rows adds to its semaphore. -/
def NC : ℕ := (bSlot 0).view.dmaCredit
/-- What a transfer of one row adds to its semaphore. -/
def NR : ℕ := (gRow 0).view.dmaCredit
/-- A copy adds something, -/
theorem NC_pos : 0 < NC := View.dmaCredit_pos _ (by decide)
/-- and so does a transfer. -/
theorem NR_pos : 0 < NR := View.dmaCredit_pos _ (by decide)

/-! ## Contents -/

/-- The argument of device `c`. -/
abbrev arg (c : Dev nD) : (main_arg0 : Ref sig .tc).ty.Contents (Elt F) := m ((c : Thread nD τ).loc main_arg0)

/-- The buffer once its eight copies have landed: slot `i` holds rows `512 i …` of the argument. -/
def bufF (c : Dev nD) : (cc0_scratch0 : Ref sig .tc).ty.Contents (Elt F) :=
  fun j => (aBlk (j 0)).view.read (Elt F) (arg m c) (ix2 (j 1) (j 2))

/-- What the load of slot `i` reads. -/
def slotVal (c : Dev nD) (i : Fin 8) : Vec F S1x512x1024 .f32 :=
  (bM : Memref sig .tc .vmem S8x512x1024 .f32).view.readAt (Elt F)
    (Rect.unit (s := S8x512x1024) ![i.val, 0, 0] S1x512x1024.size (bInb i)).toLoadRect (bufF m c)

/-- The sum of device `c`'s rows, as the kernel computes it. -/
def acc (c : Dev nD) : FVec F S1x1x1024 .f32 :=
  k0_pay6 (k0_pay4 (k0_pay3 k0_pay2 (slotVal m c 0) (slotVal m c 1) (slotVal m c 2)) (slotVal m c 3) (slotVal m c 4))
    (k0_pay5 (slotVal m c 5)) (slotVal m c 6) (slotVal m c 7)

/-- The table once every row has landed: row `s` holds the sum of device `s`. -/
def tabF : (cc0_scratch2 : Ref sig .tc).ty.Contents (Elt F) := fun j => acc m (j 0) (ix3 (0 : Fin 1) (0 : Fin 1) (j 2))

/-- What every device leaves in its result. -/
def outV : (cc0_stg0_0 : Ref sig .tc).ty.Contents (Elt F) := k0_pay1 (tabF m)

/-! ## Pieces held -/

/-- Rows `512 i …` of device `c`'s argument, at their contents; -/
def aPts (c : Dev nD) (i : Fin 8) : sProp 𝕄 :=
  (aBlk i).view.loc (c : Thread nD τ) ↦[(aBlk i).view.set]{fullShare} arg m c
/-- slot `i` of device `c`'s buffer at contents `f`; -/
def bPts (c : Dev nD) (i : Fin 8) (f : (cc0_scratch0 : Ref sig .tc).ty.Contents (Elt F)) : sProp 𝕄 :=
  (bSlot i).view.loc (c : Thread nD τ) ↦[(bSlot i).view.set]{fullShare} f
/-- a share of row `s` of device `c`'s table at contents `f`. -/
def gPts (c : Dev nD) (s : Fin 8) (q : PosShare TreeShare) (f : (cc0_scratch2 : Ref sig .tc).ty.Contents (Elt F)) : sProp 𝕄 :=
  (gRow s).view.loc (c : Thread nD τ) ↦[(gRow s).view.set]{q} f

omit [FloatOps F] in
/-- A held block may lie in an invariant, -/
instance aPts_storable (c : Dev nD) (i) : BI.Storable (upEmb : UEmb _ 𝕄) (aPts (F := F) m c i) := by unfold aPts; infer_instance
omit [FloatOps F] in
/-- so may a slot, -/
instance bPts_storable (c : Dev nD) (i f) : BI.Storable (upEmb : UEmb _ 𝕄) (bPts (F := F) c i f) := by unfold bPts; infer_instance
omit [FloatOps F] in
/-- and so may a row. -/
instance gPts_storable (c : Dev nD) (s q f) : BI.Storable (upEmb : UEmb _ 𝕄) (gPts (F := F) c s q f) := by unfold gPts; infer_instance

/-- The share of a device's own row that its transfer `k` reads. -/
abbrev sendShare (k : Fin 7) : PosShare TreeShare := Transfers.shareTok fullShare 7 k

/-! ## The schedule -/

/-- Who pays a cell of device `d` in round 0; -/
def sduties (d : Dev nD) : Slot → Finset (Dev nD)
  | none => Finset.univ.erase d
  | some (0, _) => {d}
  | some (1, k) => if k.val < 7 then {d} else ∅
  | some (2, s) => if s = d then ∅ else {s}
/-- how much; -/
def samount : Slot → ℕ
  | none => 1
  | some (0, _) => NC
  | some (1, _) => NR
  | some (2, _) => NR
/-- and what device `p` hands over with it. -/
def spayload (d p : Dev nD) : Slot → sProp 𝕄
  | none => iprop(∃ f, gPts p d fullShare f)
  | some (0, i) => iprop(bPts d i (bufF m d) ∗ aPts m d i)
  | some (1, k) => if h : k.val < 7 then gPts d d (sendShare ⟨k.val, h⟩) (tabF m) else iprop(emp)
  | some (2, s) => gPts d s fullShare (tabF m)

/-- Every duty pays something. -/
theorem samount_pos (s : Slot) : 0 < samount s := by
  rcases s with _ | ⟨a, i⟩
  · exact Nat.one_pos
  · fin_cases a
    · exact NC_pos
    · exact NR_pos
    · exact NR_pos

/-- The schedule of all cells: in round 0 the duties above, later none. -/
def ringRd : Rounds.Schedule (GSem nD τ sig) (Dev nD) 𝕄 where
  duties g r := if r = 0 ∧ g.1.2 = .tc then (match slotOf g.2 with | some s => sduties g.1.1 s | none => ∅) else ∅
  unitless _ := False
  amount g _ _ := match slotOf g.2 with | some s => samount s | none => 1
  payload g _ p := match slotOf g.2 with | some s => spayload m g.1.1 p s | none => iprop(emp)
  amount_pos g _ _ _ := by
    rcases slotOf g.2 with _ | s
    · exact Nat.one_pos
    · exact samount_pos s

/-- What a duty hands over may lie in an invariant, -/
instance spayload_storable (d p : Dev nD) (s : Slot) : BI.Storable (upEmb : UEmb _ 𝕄) (spayload (F := F) m d p s) := by
  rcases s with _ | ⟨a, i⟩
  · show BI.Storable _ (iprop(∃ f, gPts p d fullShare f) : sProp 𝕄); infer_instance
  · fin_cases a
    · show BI.Storable _ (iprop(bPts d i (bufF m d) ∗ aPts m d i) : sProp 𝕄); infer_instance
    · show BI.Storable _ (if h : i.val < 7 then gPts d d (sendShare ⟨i.val, h⟩) (tabF m) else iprop(emp) : sProp 𝕄)
      split <;> infer_instance
    · show BI.Storable _ (gPts d i fullShare (tabF m) : sProp 𝕄); infer_instance

/-- in the schedule's terms too. -/
instance ringRd_payload_storable (g : GSem nD τ sig) (r : ℕ) (p : Dev nD) :
    BI.Storable (upEmb : UEmb _ 𝕄) ((ringRd (F := F) m).payload g r p) := by
  show BI.Storable upEmb (match slotOf g.2 with | some s => spayload m g.1.1 p s | none => iprop(emp))
  rcases slotOf g.2 with _ | s <;> infer_instance

section Sched
variable (d : Dev nD) (s : Slot)

/-- The schedule read at a cell: who pays it, -/
theorem duties_cell : (ringRd (F := F) m).duties (cell d s) 0 = sduties d s := by
  dsimp only [ringRd]; rw [if_pos ⟨rfl, rfl⟩, slotOf_csem]
/-- no one after round 0, -/
theorem duties_later (g : GSem nD τ sig) : ∀ r, 1 ≤ r → (ringRd (F := F) m).duties g r = ∅ :=
  fun r hr => by dsimp only [ringRd]; exact if_neg fun h => by omega
/-- how much, -/
theorem amount_cell (p : Dev nD) : (ringRd (F := F) m).amount (cell d s) 0 p = samount s := by
  dsimp only [ringRd]; rw [slotOf_csem]
/-- and what is handed over. -/
theorem payload_cell (p : Dev nD) : (ringRd (F := F) m).payload (cell d s) 0 p = spayload m d p s := by
  dsimp only [ringRd]; rw [slotOf_csem]

/-- What the waits of a cell in round 0 consume together. -/
theorem expect_cell : (ringRd (F := F) m).expect (cell d s) 0 = (sduties d s).card * samount s := by
  unfold Schedule.expect Schedule.amountOf
  rw [duties_cell, Finset.sum_congr rfl fun p _ => amount_cell m d s p, Finset.sum_const, smul_eq_mul]

/-- What they deliver, no duty taken before. -/
theorem rest_cell : bigSep ((ringRd (F := F) m).duties (cell d s) 0 \ ∅) (fun p => (ringRd (F := F) m).payload (cell d s) 0 p)
    = bigSep (sduties d s) fun p => spayload m d p s := by
  rw [Finset.sdiff_empty, duties_cell]; exact bigSep_congr fun p _ => payload_cell m d s p

end Sched

/-! ## Families taken one by one -/

section Families
variable {N : ℕ}

/-- The members not reached yet after `n` steps. -/
def todo (n : ℕ) : Finset (Fin N) := Finset.univ.filter fun i => n ≤ i.val
/-- The members passed after `n` steps. -/
def did (n : ℕ) : Finset (Fin N) := Finset.univ.filter fun i => i.val < n

/-- At first all are to come, -/
theorem todo_zero : todo (N := N) 0 = Finset.univ := Finset.filter_true_of_mem fun _ _ => Nat.zero_le _
/-- and none is passed; -/
theorem did_zero : did (N := N) 0 = ∅ := Finset.filter_false_of_mem fun _ _ => Nat.not_lt_zero _
/-- at the end none is to come, -/
theorem todo_end : todo (N := N) N = ∅ := Finset.filter_false_of_mem fun i _ => Nat.not_le_of_lt i.isLt
/-- and all are passed. -/
theorem did_end : did (N := N) N = Finset.univ := Finset.filter_true_of_mem fun i _ => i.isLt

/-- Step `i` takes `i` out of those to come -/
theorem todo_succ (i : Fin N) : todo i.val = insert i (todo (N := N) (i.val + 1)) := by
  ext j; simp only [todo, Finset.mem_filter, Finset.mem_univ, true_and, Finset.mem_insert, Fin.ext_iff]; omega
/-- and adds it to those passed; -/
theorem did_succ (i : Fin N) : did (i.val + 1) = insert i (did (N := N) i.val) := by
  ext j; simp only [did, Finset.mem_filter, Finset.mem_univ, true_and, Finset.mem_insert, Fin.ext_iff]; omega
/-- after it `i` is not to come, -/
theorem not_mem_todo (i : Fin N) : i ∉ todo (N := N) (i.val + 1) := by simp [todo]
/-- before it `i` is not passed. -/
theorem not_mem_did (i : Fin N) : i ∉ did (N := N) i.val := by simp [did]

variable {M : Type _} [URA M] (Φ : Fin N → sProp M)

/-- So a family over those to come gives up its member `i`, -/
theorem bigSep_todo (i : Fin N) : bigSep (todo i.val) Φ = iprop(Φ i ∗ bigSep (todo (i.val + 1)) Φ) := by
  rw [todo_succ, bigSep_insert (not_mem_todo i)]; rfl
/-- and one over those passed takes it in. -/
theorem bigSep_did (i : Fin N) : bigSep (did (i.val + 1)) Φ = iprop(Φ i ∗ bigSep (did i.val) Φ) := by
  rw [did_succ, bigSep_insert (not_mem_did i)]; rfl

end Families

/-! ## What each device owes; the levels -/

/-- The transfers `n, n + 1, …` device `c` has still to pay. -/
def OR (c : Dev nD) (n : ℕ) : CellTallies nD τ sig Unit := ∑ k ∈ todo (N := 7) n, tallyAt (cell (peer c k) (some (2, c))) () NR
/-- The barrier units `n, n + 1, …` device `c` has still to pay. -/
def OB (c : Dev nD) (n : ℕ) : CellTallies nD τ sig Unit := ∑ k ∈ todo (N := 7) n, tallyAt (cell (peer c k) none) () 1
/-- All it owes at launch. -/
def O₀ (c : Dev nD) : CellTallies nD τ sig Unit := OR c 0 + OB c 0

/-- Transfer `k` pays its part of the debt, -/
theorem OR_step (c : Dev nD) (k : Fin 7) : OR c k.val = OR c (k.val + 1) + tallyAt (cell (peer c k) (some (2, c))) () NR := by
  unfold OR; rw [todo_succ, Finset.sum_insert (not_mem_todo k), add_comm]
/-- and so does barrier unit `k`; -/
theorem OB_step (c : Dev nD) (k : Fin 7) : OB c k.val = OB c (k.val + 1) + tallyAt (cell (peer c k) none) () 1 := by
  unfold OB; rw [todo_succ, Finset.sum_insert (not_mem_todo k), add_comm]
/-- after seven transfers none of that debt is left, -/
theorem OR_end (c : Dev nD) : OR c 7 = 0 := by unfold OR; rw [todo_end]; rfl
/-- nor of the other after seven units. -/
theorem OB_end (c : Dev nD) : OB c 7 = 0 := by unfold OB; rw [todo_end]; rfl

/-- A sum of debts that owes a cell has a member that owes it. -/
theorem sum_pos {s : Finset (Fin 7)} {f : Fin 7 → CellTallies nD τ sig Unit} {g : GSem nD τ sig} {u : Unit}
    (h : 0 < (∑ k ∈ s, f k) g u) : ∃ k, 0 < f k g u := by
  by_contra hn
  rw [Finset.sum_apply, Finsupp.finset_sum_apply,
    Finset.sum_eq_zero fun k _ => Nat.eq_zero_of_not_pos fun hk => hn ⟨k, hk⟩] at h
  exact Nat.lt_irrefl 0 h

/-- What the transfers owe are receive cells of peers; -/
theorem OR_pos {c : Dev nD} {n : ℕ} {g : GSem nD τ sig} {u : Unit} (h : 0 < OR c n g u) : ∃ k, g = cell (peer c k) (some (2, c)) :=
  let ⟨k, hk⟩ := sum_pos h; ⟨k, (Pipeline.tallyAt_pos hk).1⟩
/-- what the units owe are barrier cells of peers. -/
theorem OB_pos {c : Dev nD} {n : ℕ} {g : GSem nD τ sig} {u : Unit} (h : 0 < OB c n g u) : ∃ k, g = cell (peer c k) none :=
  let ⟨k, hk⟩ := sum_pos h; ⟨k, (Pipeline.tallyAt_pos hk).1⟩

/-- Only the TensorCores' semaphores have levels; -/
def L (g : GSem nD τ sig) : Finset Unit := if g.1.2 = .tc then {()} else ∅
/-- other cores' have none; -/
theorem L_of_ne (g : GSem nD τ sig) (h : g.1.2 ≠ .tc) : L g = ∅ := if_neg h
/-- a TensorCore's have one. -/
theorem L_tc (c : Dev nD) (sm : SemLoc sig) : L ((c : Thread nD τ), sm) = {()} := if_pos rfl

/-- Levels: receive cells 2, barrier cells 1, the others 0. -/
def slev : Option Slot → ℕ
  | some none => 1
  | some (some x) => if x.1 = 2 then 2 else 0
  | none => 0
/-- The level of a semaphore by its number; -/
def lv (g : GSem nD τ sig) (_ : Unit) : ℕ := slev (slotOf g.2)

/-- read at a cell. -/
theorem lv_cell (d : Dev nD) (s : Slot) (u : Unit) : lv (cell d s) u = slev (some s) := by unfold lv; rw [slotOf_csem]

/-- A core may wait on a semaphore whose level is below every cell it owes. -/
theorem mayWait (c : Dev nD) (sm : SemLoc sig) (O : CellTallies nD τ sig Unit)
    (h : ∀ g u, 0 < O g u → ∃ d s, g = cell d s ∧ slev (slotOf sm) < slev (some s)) :
    (levAts L lv : sProp 𝕄) ⊢ MayWait (c : Thread nD τ) sm () O :=
  MayOwe.of_cut (L := L) (lev := lv) (slev (slotOf sm))
    (fun p hp => by rw [Finset.mem_singleton.mp hp, L_tc]; exact Finset.mem_singleton_self _)
    (fun g u hg => by obtain ⟨d, s, rfl, -⟩ := h g u hg; rw [L_tc]; exact Finset.mem_singleton_self _)
    (fun p hp => by rw [Finset.mem_singleton.mp hp]; exact le_rfl)
    (fun g u hg => by obtain ⟨d, s, rfl, hs⟩ := h g u hg; rw [lv_cell]; exact hs)

/-- Owing transfers only, a core may wait on any semaphore but a receive; -/
theorem mayWait_OR (c : Dev nD) (sm : SemLoc sig) (n : ℕ) (hl : slev (slotOf sm) < 2) :
    (levAts L lv : sProp 𝕄) ⊢ MayWait (c : Thread nD τ) sm () (OR c n) :=
  mayWait c sm _ fun g u hg => by obtain ⟨k, rfl⟩ := OR_pos hg; exact ⟨_, _, rfl, hl⟩

/-- owing barrier units too, on the copies' and the pipeline's. -/
theorem mayWait_O₀ (c : Dev nD) (sm : SemLoc sig) (hl : slev (slotOf sm) = 0) :
    (levAts L lv : sProp 𝕄) ⊢ MayWait (c : Thread nD τ) sm () (O₀ c) :=
  mayWait c sm _ fun g u hg => by
    unfold O₀ at hg
    rw [Pi.add_apply, Finsupp.add_apply] at hg
    rcases Nat.eq_zero_or_pos (OR c 0 g u) with h0 | h0
    · rw [h0, Nat.zero_add] at hg; obtain ⟨k, rfl⟩ := OB_pos hg
      exact ⟨_, _, rfl, by rw [hl]; exact Nat.one_pos⟩
    · obtain ⟨k, rfl⟩ := OR_pos h0; exact ⟨_, _, rfl, by rw [hl]; exact Nat.two_pos⟩

end Cert.MeanProof

end
-- ==== Proof.Pieces.lean ====
/-
# The buffers cut into the pieces the kernel moves

The argument in eight blocks of 512 rows, the buffer in eight slots, the table in eight rows: each family covers its array
and no two members meet, so an array is held exactly when its pieces are. And what lands in a piece: a block's copy leaves
its slot as `bufF` says, a row's transfer or store leaves its row as `tabF` says.
-/
module

public import proofs.«01_k».proof.Proof.Protocol

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3 reshapeEquiv_ix2_1ab)

variable {F : FTy → Type} [FloatOps F]

local notation "𝕄" => MT nD τ sig Unit (Elt F) ℕ UU ℕ

variable (m : (ℓ : Loc nD τ sig) → Buf (Elt F) ℓ)

/-! ## The pieces' element sets -/

/-- The rectangle of block `i` of the argument, -/
abbrev aRect (i : Fin 8) : Rect S4096x1024 := Rect.unit (s := S4096x1024) ![512 * i.val, 0] S512x1024.size (aInb i)
/-- of slot `i` of the buffer, -/
abbrev bRect (i : Fin 8) : Rect S8x512x1024 := Rect.unit (s := S8x512x1024) ![i.val, 0, 0] S1x512x1024.size (bInb i)
/-- and of row `s` of the table. -/
abbrev gRect (s : Fin 8) : Rect S8x1x1024 := Rect.unit (s := S8x1x1024) ![s.val, 0, 0] S1x1x1024.size (gInb s)

/-- A block's elements are its rectangle's, -/
theorem aSet (i : Fin 8) : (aBlk i).view.set = (aRect i).set := View.set_slice_whole _ _
/-- a slot's are, -/
theorem bSet (i : Fin 8) : (bSlot i).view.set = (bRect i).set := (View.set_reshape _ _).trans (View.set_slice_whole _ _)
/-- and a row's. -/
theorem gSet (s : Fin 8) : (gRow s).view.set = (gRect s).set := (View.set_reshape _ _).trans (View.set_slice_whole _ _)

/-- A block moves along its first dimension only, -/
theorem off_lead2 (R : ℕ) (i : Fin 8) (a : Fin 2) (h : a ≠ 0) : (![R * i.val, 0] : Fin 2 → ℕ) a = 0 := by
  match a with | ⟨0, _⟩ => exact absurd rfl h | ⟨1, _⟩ => rfl
/-- and so do a slot and a row. -/
theorem off_lead3 (i : Fin 8) (a : Fin 3) (h : a ≠ 0) : (![i.val, 0, 0] : Fin 3 → ℕ) a = 0 := by
  match a with | ⟨0, _⟩ => exact absurd rfl h | ⟨1, _⟩ => rfl | ⟨2, _⟩ => rfl

/-- The extents of a block, -/
abbrev aSize : Fin S4096x1024.rank → ℕ := S512x1024.size
/-- of a slot, -/
abbrev bSize : Fin S8x512x1024.rank → ℕ := S1x512x1024.size
/-- and of a row. -/
abbrev gSize : Fin S8x1x1024.rank → ℕ := S1x1x1024.size

/-- Two blocks share no element, -/
theorem aDisj (i j : Fin 8) (h : i ≠ j) : Disjoint (aRect i).set (aRect j).set :=
  Ring.lead_disjoint (s := S4096x1024) (0 : Fin 2) 512 (fun i => ![512 * i.val, 0]) aSize aInb (fun _ => rfl) rfl i j h
/-- nor do two slots, -/
theorem bDisj (i j : Fin 8) (h : i ≠ j) : Disjoint (bRect i).set (bRect j).set :=
  Ring.lead_disjoint (s := S8x512x1024) (0 : Fin 3) 1 (fun i => ![i.val, 0, 0]) bSize bInb (fun i => (Nat.one_mul _).symm) rfl i j h
/-- nor two rows. -/
theorem gDisj (i j : Fin 8) (h : i ≠ j) : Disjoint (gRect i).set (gRect j).set :=
  Ring.lead_disjoint (s := S8x1x1024) (0 : Fin 3) 1 (fun i => ![i.val, 0, 0]) gSize gInb (fun i => (Nat.one_mul _).symm) rfl i j h

/-- The eight blocks are the whole argument, -/
theorem aCover : Finset.univ.biUnion (fun i => (aRect i).set) = Finset.univ :=
  Ring.lead_cover (s := S4096x1024) (0 : Fin 2) 512 (fun i : Fin 8 => ![512 * i.val, 0]) aSize aInb (fun _ => rfl)
    (fun i a h => off_lead2 512 i a h) rfl (fun a h => by match a with | ⟨0, _⟩ => exact absurd rfl h | ⟨1, _⟩ => rfl) rfl
/-- the eight slots the whole buffer, -/
theorem bCover : Finset.univ.biUnion (fun i => (bRect i).set) = Finset.univ :=
  Ring.lead_cover (s := S8x512x1024) (0 : Fin 3) 1 (fun i : Fin 8 => ![i.val, 0, 0]) bSize bInb (fun i => (Nat.one_mul _).symm)
    off_lead3 rfl (fun a h => by match a with | ⟨0, _⟩ => exact absurd rfl h | ⟨1, _⟩ => rfl | ⟨2, _⟩ => rfl) rfl
/-- and the eight rows the whole table. -/
theorem gCover : Finset.univ.biUnion (fun i => (gRect i).set) = Finset.univ :=
  Ring.lead_cover (s := S8x1x1024) (0 : Fin 3) 1 (fun i : Fin 8 => ![i.val, 0, 0]) gSize gInb (fun i => (Nat.one_mul _).symm)
    off_lead3 rfl (fun a h => by match a with | ⟨0, _⟩ => exact absurd rfl h | ⟨1, _⟩ => rfl | ⟨2, _⟩ => rfl) rfl

/-! ## Arrays held whole are held piece by piece -/

/-- Holding the argument is holding its eight blocks, -/
theorem arg_pieces (c : Dev nD) :
    (((c : Thread nD τ).loc main_arg0) ↦{fullShare} arg m c : sProp 𝕄) = bigSep Finset.univ fun i => aPts m c i :=
  (Ring.pointsTo_blocks (ℓ := (c : Thread nD τ).loc main_arg0) (fun i => (aRect i).set) aDisj aCover _).trans
    (bigSep_congr fun i _ => by unfold aPts; rw [aSet])
/-- holding the buffer its eight slots, -/
theorem buf_pieces (c : Dev nD) (f : (cc0_scratch0 : Ref sig .tc).ty.Contents (Elt F)) :
    (((c : Thread nD τ).loc cc0_scratch0) ↦{fullShare} f : sProp 𝕄) = bigSep Finset.univ fun i => bPts c i f :=
  (Ring.pointsTo_blocks (ℓ := (c : Thread nD τ).loc cc0_scratch0) (fun i => (bRect i).set) bDisj bCover _).trans
    (bigSep_congr fun i _ => by unfold bPts; rw [bSet])
/-- and holding the table its eight rows. -/
theorem tab_pieces (c : Dev nD) (f : (cc0_scratch2 : Ref sig .tc).ty.Contents (Elt F)) :
    (((c : Thread nD τ).loc cc0_scratch2) ↦{fullShare} f : sProp 𝕄) = bigSep Finset.univ fun s => gPts c s fullShare f :=
  (Ring.pointsTo_blocks (ℓ := (c : Thread nD τ).loc cc0_scratch2) (fun i => (gRect i).set) gDisj gCover _).trans
    (bigSep_congr fun i _ => by unfold gPts; rw [gSet])

/-! ## What lands -/

/-- An element of slot `i` by its coordinates. -/
theorem bSlot_emb (i : Fin 8) (x : Fin 512) (y : Fin 1024) : (bSlot i).view.emb (ix2 x y) = ix3 i x y := by
  show (bRect i).emb (Shape.reshapeEquiv _ (ix2 x y)) = _
  rw [reshapeEquiv_ix2_1ab]
  funext a
  refine Fin.ext ?_
  match a with
  | ⟨0, _⟩ => show i.val + 1 * 0 = i.val; omega
  | ⟨1, _⟩ => show 0 + 1 * x.val = x.val; omega
  | ⟨2, _⟩ => show 0 + 1 * y.val = y.val; omega
/-- An element of row `s` by its coordinates. -/
theorem gRow_emb (s : Fin 8) (x : Fin 1) (y : Fin 1024) : (gRow s).view.emb (ix2 x y) = ix3 s x y := by
  show (gRect s).emb (Shape.reshapeEquiv _ (ix2 x y)) = _
  rw [reshapeEquiv_ix2_1ab]
  funext a
  refine Fin.ext ?_
  match a with
  | ⟨0, _⟩ => show s.val + 1 * 0 = s.val; omega
  | ⟨1, _⟩ => show 0 + 1 * x.val = x.val; omega
  | ⟨2, _⟩ => show 0 + 1 * y.val = y.val; omega

/-- A block copied into slot `i` leaves the slot as `bufF` says. -/
theorem slot_landed (c : Dev nD) (i : Fin 8) (fd : (cc0_scratch0 : Ref sig .tc).ty.Contents (Elt F)) :
    ((bSlot i).view.loc (c : Thread nD τ) ↦[(bSlot i).view.set]{fullShare}
        (bSlot i).view.write (Elt F) fd ((aBlk i).view.read (Elt F) (arg m c)) Finset.univ : sProp 𝕄) = bPts c i (bufF m c) := by
  unfold bPts
  refine pointsTo_congr fun e he => ?_
  obtain ⟨j, -, rfl⟩ := Finset.mem_map.mp he
  refine (View.write_emb_of_mem (v := (bSlot i).view) fd _ (Finset.mem_univ j)).trans ?_
  obtain ⟨x, y, rfl⟩ : ∃ (x : Fin 512) (y : Fin 1024), j = ix2 x y := ⟨j 0, j 1, eq_ix2 j⟩
  exact (congrArg (bufF m c) (bSlot_emb i x y)).symm

/-- A row transferred leaves the row as it was at its source. -/
theorem row_landed (c : Dev nD) (s : Fin 8) (fd f : (cc0_scratch2 : Ref sig .tc).ty.Contents (Elt F)) :
    ((gRow s).view.loc (c : Thread nD τ) ↦[(gRow s).view.set]{fullShare}
        (gRow s).view.write (Elt F) fd ((gRow s).view.read (Elt F) f) Finset.univ : sProp 𝕄) = gPts c s fullShare f := by
  unfold gPts
  refine pointsTo_congr fun e he => ?_
  obtain ⟨j, -, rfl⟩ := Finset.mem_map.mp he
  exact View.write_emb_of_mem (v := (gRow s).view) fd _ (Finset.mem_univ j)

/-- The store of a device's sum leaves its row as `tabF` says. -/
theorem row_stored (c : Dev nD) (f : (cc0_scratch2 : Ref sig .tc).ty.Contents (Elt F)) :
    ((gM.access (gRect c)).loc (c : Thread nD τ) ↦[(gRow c).view.set]{fullShare}
        (gM.access (gRect c) : View sig .tc _ _ _).write (Elt F) f (acc m c) Finset.univ : sProp 𝕄) = gPts c c fullShare (tabF m) := by
  unfold gPts
  refine pointsTo_congr fun e he => ?_
  rw [gSet, ← Rect.map_emb_univ] at he
  obtain ⟨j, -, rfl⟩ := Finset.mem_map.mp he
  refine (View.write_emb_of_mem (v := gM.access (gRect c)) f (acc m c) (Finset.mem_univ j)).trans ?_
  have h0 : (gRect c).emb j 0 = c := Fin.ext (by
    have := (j 0).isLt
    show c.val + 1 * (j 0).val = c.val
    have h1 : (j 0).val < 1 := (j 0).isLt
    omega)
  have h2 : ix3 (0 : Fin 1) (0 : Fin 1) ((gRect c).emb j 2) = j := by
    funext a
    refine Fin.ext ?_
    match a with
    | ⟨0, _⟩ => have h1 : (j 0).val < 1 := (j 0).isLt; show 0 = (j 0).val; omega
    | ⟨1, _⟩ => have h1 : (j 1).val < 1 := (j 1).isLt; show 0 = (j 1).val; omega
    | ⟨2, _⟩ => show 0 + 1 * (j 2).val = (j 2).val; omega
  show acc m c j = acc m ((gRect c).emb j 0) (ix3 0 0 ((gRect c).emb j 2))
  rw [h0]
  exact (congrArg (acc m c) h2).symm

/-- The access of a row through the table is to the row's elements. -/
theorem gAccess_set (s : Fin 8) : (gM.access (gRect s) : View sig .tc _ _ _).set = (gRow s).view.set := by
  rw [gSet]; exact View.set_slice_whole _ _
/-- The access of a slot through the buffer is to the slot's elements. -/
theorem bAccess_set (i : Fin 8) : (bM.access (bRect i) : View sig .tc _ _ _).set = (bSlot i).view.set := by
  rw [bSet]; exact View.set_slice_whole _ _

end Cert.MeanProof

end
-- ==== Proof.Steps.lean ====
/-
# One rule per effect of the kernel's body

What a device holds of each family of effects is a family of resources: those of the effects still to come (`todo n`), those
of the effects done (`did n`). Each rule here is one effect at position `k` of its family, moving that member over; the body
(`Body.lean`) is their sequence. The offsets an effect is printed with are variables, with the equations that say which piece
they name.
-/
module

public import proofs.«01_k».proof.Proof.Pieces

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the program needs a variant. -/
abbrev 𝒱₀ : Variants := Variants.none

/-- The weakest precondition of a program at device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device may use at any time -/

/-- One member of a family over every index. -/
theorem one_of {I : Type} [Fintype I] [DecidableEq I] (Φ : I → sProp 𝕄) (i : I) : bigSep Finset.univ Φ ⊢ Φ i :=
  bigSep_elim (Finset.mem_univ i)

/-- Every cell's invariant, under the names `K`, and that every cell has reached round 0. -/
def records (K : Dev nD × Slot → ℕ) : sProp 𝕄 :=
  iprop((bigSep Finset.univ fun x : Dev nD × Slot => cellInv ER (ringRd m) (K x) (cell x.1 x.2))
    ∗ bigSep Finset.univ fun x : Dev nD × Slot => reached ER (cell x.1 x.2) 0)

/-- The records may be used again and again. -/
instance records_persistent (K : Dev nD × Slot → ℕ) : BI.Persistent (records m K) := by unfold records; infer_instance

variable (K : Dev nD × Slot → ℕ)

/-- They give any cell's invariant, -/
theorem records_inv (d : Dev nD) (s : Slot) : records m K ⊢ cellInv ER (ringRd m) (K (d, s)) (cell d s) := by
  unfold records
  exact sep_elim_left.trans (one_of (fun x : Dev nD × Slot => cellInv ER (ringRd m) (K x) (cell x.1 x.2)) (d, s))
/-- and that it has reached round 0. -/
theorem records_reached (d : Dev nD) (s : Slot) : records m K ⊢ reached ER (cell d s) 0 := by
  unfold records
  exact sep_elim_right.trans (one_of (fun x : Dev nD × Slot => reached ER (cell x.1 x.2) 0) (d, s))

/-- These and the levels. -/
def ctx : sProp 𝕄 := iprop(records m K ∗ levAts L lv)

/-- They too may be used again and again. -/
instance ctx_persistent : BI.Persistent (ctx m K) := by unfold ctx; infer_instance

/-- What is persistent is still there after a rule that uses it. -/
theorem keep {R P P' X Y : sProp 𝕄} [BI.Persistent R] (h : iprop(R ∗ P) ⊢ iprop((P' -∗ X) -∗ Y)) :
    iprop(R ∗ P) ⊢ iprop((iprop(R ∗ P') -∗ X) -∗ Y) := by
  iintro ⟨#HR, HP⟩ Hk
  iapply h $$ [HP]
  · isplitr; · iexact HR
    iexact HP
  iintro HP'
  iapply Hk
  isplitr; · iexact HR
  iexact HP'

/-- What a device owes, whatever it has waited for. -/
def owed (c : Dev nD) (O : CellTallies nD τ sig Unit) : sProp 𝕄 := iprop(∃ W, owes (c : Thread nD τ) O W)

/-! ## Waits -/

/-- A wait for all of round 0 of one of the device's cells: everything the round's duties deliver. -/
theorem wp_wait_cell (c : Dev nD) (s : Slot) {α : Type} {Q : α → sProp 𝕄} {w : TpuEff nD τ sig (Elt F) Λ₀ .tc PUnit} {n : ℕ}
    (hw : ∀ J : PUnit → sProp 𝕄, wpE (defs₀ (F := F)) 𝒱₀ (c : Thread nD τ) none Set.univ w J
      = waitSpec (c : Thread nD τ) Set.univ (csem s) n J)
    (hn : n = (sduties c s).card * samount s) (O : CellTallies nD τ sig Unit)
    (hO : (levAts L lv : sProp 𝕄) ⊢ MayWait (c : Thread nD τ) (csem s) () O)
    {k : PUnit → Prog (TpuEff nD τ sig (Elt F) Λ₀ .tc) α} :
    iprop(records m K ∗ levAts L lv ∗ owed c O ∗ cred (tallyAt (cell c s) () n) ∗ atPos ER (cell c s) 0 ∅ 0)
      ⊢ iprop(((owed c O ∗ atPos ER (cell c s) 1 ∅ 0 ∗ bigSep (sduties c s) fun p => spayload m c p s) -∗ wpc c (k ⟨⟩) Q)
          -∗ wpc c (.op w k) Q) := by
  unfold owed
  iintro ⟨#HR, #Hlev, ⟨%W, HO⟩, Hc, Hat⟩ Hk
  iapply (Rounds.wp_wait_rest_token 𝒱₀ ER (ringRd m) (c : Thread nD τ) none (κ := K (c, s)) hw (Set.mem_univ _) ()
      (O := O) (W := W) (R := 0) (m := 0) (T := ∅) (by rw [Nat.zero_add, expect_cell]; exact hn)) $$ [HO Hc Hat]
  · isplitr; · iapply (records_inv m K c s); iexact HR
    isplitl [Hc]; · iexact Hc
    isplitl [HO]; · iexact HO
    isplitr; · iapply hO; iexact Hlev
    iexact Hat
  iintro ⟨HO, Hat, -, Hpay⟩
  iapply Hk
  isplitl [HO]; · iexists _; iexact HO
  isplitl [Hat]; · iexact Hat
  ihave Hp := (Entails.of_eq (rest_cell m c s)) $$ Hpay
  iexact Hp

/-! ## The barrier's units -/

/-- For the unit to its peer `k`: the right to pay it, and the row of `c`'s table the peer will write. -/
def sigIn (c : Dev nD) (k : Fin 7) : sProp 𝕄 :=
  iprop(dutyTok ER (cell (peer c k) none) 0 c ∗ ∃ f, gPts c (peer c k) fullShare f)

/-- Device `c` pays the barrier of each of its peers. -/
theorem mem_bar (c : Dev nD) (k : Fin 7) : c ∈ (ringRd (F := F) m).duties (cell (peer c k) none) 0 := by
  rw [duties_cell]; exact Finset.mem_erase.mpr ⟨(peer_ne c k).symm, Finset.mem_univ _⟩

/-- The row handed over is what the unit's duty pays. -/
theorem bar_pays (d p : Dev nD) : (iprop(∃ f, gPts p d fullShare f) : sProp 𝕄)
    ⊢ (ringRd m).payload ((d : Thread nD τ), SemLoc.reg barS) 0 p := Entails.of_eq (payload_cell m d none p).symm

/-- The unit to peer `k`. -/
theorem step_signal (c : Dev nD) (k : Fin 7) (x y : ℕ) (hx : k.val = x) (hy : k.val + 1 = y) {n : Dev nD} (hn : n = peer c k) {j : ℤ} (hj : j = 1) {α : Type} {Q : α → sProp 𝕄}
    {p : PUnit → Prog (TpuEff nD τ sig (Elt F) Λ₀ .tc) α} :
    iprop(ctx m K ∗ owed c (OR c 0 + OB c x) ∗ bigSep (todo x) (sigIn c))
      ⊢ iprop(((owed c (OR c 0 + OB c y) ∗ bigSep (todo y) (sigIn c)) -∗ wpc c (p ⟨⟩) Q)
          -∗ wpc c (.op (.semSignal (n : Thread nD τ) barS j) p) Q) := by
  subst hx hy
  subst hn hj
  rw [bigSep_todo]
  unfold owed
  unfold ctx
  iintro ⟨⟨#HR, #Hlev⟩, ⟨%W, HO⟩, ⟨Hs, Hrest⟩⟩ Hk
  unfold sigIn
  icases Hs with ⟨Htok, Hrow⟩
  iapply (Rounds.wp_signal 𝒱₀ ER (ringRd m) (c : Thread nD τ) none (dst := (peer c k : Thread nD τ)) (κ := K (peer c k, none))
      (d := c) (mem_bar m c k) (amount_cell m (peer c k) none c) () (O₀ := OR c 0 + OB c k.val) (OR c 0 + OB c (k.val + 1))
      (by rw [OB_step, add_assoc]; rfl)) $$ [HO Htok Hrow]
  · isplitr; · iapply (records_inv m K (peer c k) none); iexact HR
    isplitl [HO]; · iexact HO
    isplitl [Htok]; · iexact Htok
    isplitl [Hrow]
    · iapply (bar_pays m (peer c k) c); iexact Hrow
    iapply (records_reached m K (peer c k) none); iexact HR
  iintro HO
  iapply Hk
  isplitl [HO]; · iexists _; iexact HO
  iexact Hrest

/-- The wait for the seven units: every peer's row for this device. -/
theorem step_barrier (c : Dev nD) {j : ℤ} (hj : j = 7) {α : Type} {Q : α → sProp 𝕄}
    {p : PUnit → Prog (TpuEff nD τ sig (Elt F) Λ₀ .tc) α} :
    iprop(ctx m K ∗ owed c (OR c 0) ∗ cred (tallyAt (cell c none) () 7) ∗ atPos ER (cell c none) 0 ∅ 0)
      ⊢ iprop(((owed c (OR c 0) ∗ atPos ER (cell c none) 1 ∅ 0 ∗ bigSep Finset.univ fun k : Fin 7 => iprop(∃ f, gPts (peer c k) c fullShare f))
            -∗ wpc c (p ⟨⟩) Q)
          -∗ wpc c (.op (.semWait barS j) p) Q) := by
  subst hj
  have hcard : (7 : ℕ) = (sduties c none).card * samount none := by
    show 7 = (Finset.univ.erase c).card * 1
    rw [others_eq, Finset.card_map, Finset.card_univ, Fintype.card_fin]
  have hpay : bigSep (sduties c none) (fun q => spayload m c q none)
      = bigSep Finset.univ fun k : Fin 7 => (iprop(∃ f, gPts (peer c k) c fullShare f) : sProp 𝕄) := by
    show bigSep (Finset.univ.erase c) (fun q => (iprop(∃ f, gPts q c fullShare f) : sProp 𝕄)) = _
    rw [others_eq, bigSep_map]; rfl
  rw [← hpay]
  unfold ctx
  exact sep_assoc.1.trans <| wp_wait_cell m K c none (fun J => wpE_semWait_eq 𝒱₀ (c : Thread nD τ) none Set.univ J) hcard (OR c 0) (mayWait_OR c _ 0 (by decide))

/-! ## The copies of the argument's blocks -/

/-- A copy into any slot adds the same amount, -/
theorem amount_NC (i : Fin 8) : (bSlot i).view.amount (csem (some (0, i))) = NC := rfl
/-- which is its credit; -/
theorem credit_NC (i : Fin 8) : (bSlot i).view.dmaCredit = NC := rfl
/-- a transfer of any row adds the same amount, -/
theorem amount_NR (s : Fin 8) (x : Fin 3 × Fin 8) : (gRow s).view.amount (csem (some x)) = NR := rfl
/-- which is its credit. -/
theorem credit_NR (s : Fin 8) : (gRow s).view.dmaCredit = NR := rfl

/-- For copy `i`: its slot, its block, the right to land; -/
def copyIn (c : Dev nD) (i : Fin 8) : sProp 𝕄 :=
  iprop((∃ f, bPts c i f) ∗ aPts m c i ∗ dutyTok ER (cell c (some (0, i))) 0 c)
/-- the credit its wait will spend; -/
def copyCred (c : Dev nD) (i : Fin 8) : sProp 𝕄 := cred (tallyAt (cell c (some (0, i))) () NC)
/-- and what the wait returns. -/
def copyOut (c : Dev nD) (i : Fin 8) : sProp 𝕄 :=
  iprop(bPts c i (bufF m c) ∗ aPts m c i ∗ atPos ER (cell c (some (0, i))) 1 ∅ 0)

/-- Copy `i`. -/
theorem step_copy (c : Dev nD) (i : Fin 8) (x y : ℕ) (hx : i.val = x) (hy : i.val + 1 = y) {oa : Fin 2 → ℕ} {ob : Fin 3 → ℕ} {ha hb} (hoa : oa = ![512 * i.val, 0]) (hob : ob = ![i.val, 0, 0])
    {sm : SemLoc sig} (hs : sm = csem (some (0, i))) {hsrc hdst hsem} {α : Type} {Q : α → sProp 𝕄}
    {p : PUnit → Prog (TpuEff nD τ sig (Elt F) Λ₀ .tc) α} :
    iprop(ctx m K ∗ bigSep (todo x) (copyIn m c) ∗ bigSep (did x) (copyCred c))
      ⊢ iprop(((bigSep (todo y) (copyIn m c) ∗ bigSep (did y) (copyCred c)) -∗ wpc c (p ⟨⟩) Q)
          -∗ wpc c (.op (.enqueueDma (aAt oa ha) (.here (bAt ob hb)) sm hsrc hdst hsem) p) Q) := by
  subst hx hy
  subst hoa hob hs
  rw [bigSep_todo, bigSep_did]
  unfold ctx
  iintro ⟨⟨#HR, #Hlev⟩, ⟨Hin, Htodo⟩, Hdid⟩ Hk
  unfold copyIn aPts
  icases Hin with ⟨⟨%f, Hb⟩, Ha, Htok⟩
  unfold bPts
  iapply (Rounds.wp_copy_pointsTo 𝒱₀ ER (ringRd m) (c : Thread nD τ) none (src := aBlk i) (dst := bSlot i) (κ := K (c, some (0, i))) (r := 0) (d := c) (fd := f)
      (by rw [duties_cell]; exact Finset.mem_singleton_self c) () NC (amount_NC i) (amount_cell m c (some (0, i)) c)
      (by rw [slot_landed, payload_cell]; exact .rfl)) $$ [Ha Hb Htok]
  · isplitr; · iapply (records_inv m K c (some (0, i))); iexact HR
    isplitl [Ha]; · iexact Ha
    isplitl [Hb]; · iexact Hb
    isplitl [Htok]; · iexact Htok
    iapply (records_reached m K c (some (0, i))); iexact HR
  iintro Hc
  iapply Hk
  isplitl [Htodo]; · iexact Htodo
  isplitl [Hc]; · unfold copyCred; iexact Hc
  iexact Hdid

/-- The wait for copy `i` and the load of its slot: the program goes on at the block's rows. -/
theorem step_copyWait (c : Dev nD) (i : Fin 8) (x y : ℕ) (hx : i.val = x) (hy : i.val + 1 = y) (O : CellTallies nD τ sig Unit)
    (hO : (levAts L lv : sProp 𝕄) ⊢ MayWait (c : Thread nD τ) (csem (some (0, i))) () O)
    {oa : Fin 2 → ℕ} {ob ob' : Fin 3 → ℕ} {ha hb hb'} (hob : ob = ![i.val, 0, 0]) (hob' : ob' = ![i.val, 0, 0])
    {sm : DmaSem sig} (hs : SemLoc.dma sm = csem (some (0, i))) {hsrc hdst hl} {α : Type} {Q : α → sProp 𝕄}
    {p : Vec F S1x512x1024 .f32 → Prog (TpuEff nD τ sig (Elt F) Λ₀ .tc) α} :
    iprop(ctx m K ∗ owed c O ∗ bigSep (todo x) (copyCred c)
        ∗ bigSep (todo x) (fun i => atPos ER (cell c (some (0, i))) 0 ∅ 0) ∗ bigSep (did x) (copyOut m c))
      ⊢ iprop(((owed c O ∗ bigSep (todo y) (copyCred c)
              ∗ bigSep (todo y) (fun i => atPos ER (cell c (some (0, i))) 0 ∅ 0) ∗ bigSep (did y) (copyOut m c))
            -∗ wpc c (p (slotVal m c i)) Q)
          -∗ wpc c (.op (.waitDma2 sm (aAt oa ha) (bAt ob hb) hsrc hdst) fun _ =>
              .op (.load bM (Rect.unit (s := S8x512x1024) ob' S1x512x1024.size hb').toLoadRect hl) p) Q) := by
  subst hx hy
  subst hob hob'
  have hw : ∀ J : PUnit → sProp 𝕄, wpE (defs₀ (F := F)) 𝒱₀ (c : Thread nD τ) none Set.univ
      (.waitDma2 sm (aAt oa ha) (bAt ![i.val, 0, 0] hb) hsrc hdst) J = waitSpec (c : Thread nD τ) Set.univ (csem (some (0, i))) NC J :=
    fun J => by rw [← hs]; exact wpE_waitDma2_eq 𝒱₀ (c : Thread nD τ) none Set.univ J
  rw [bigSep_todo, bigSep_todo, bigSep_did]
  unfold ctx
  iintro ⟨⟨#HR, #Hlev⟩, HO, ⟨Hc, Hcs⟩, ⟨Hat, Hats⟩, Hdid⟩ Hk
  unfold copyCred
  iapply (wp_wait_cell m K c (some (0, i)) hw (by show NC = 1 * NC; omega) O hO) $$ [HO Hc Hat]
  · isplitr; · iexact HR
    isplitr; · iexact Hlev
    isplitl [HO]; · iexact HO
    isplitl [Hc]; · iexact Hc
    iexact Hat
  iintro ⟨HO, Hat, Hpay⟩
  ihave Hp := (Entails.of_eq (show bigSep (sduties c (some (0, i))) (fun q => spayload m c q (some (0, i)))
    = (iprop(bPts c i (bufF m c) ∗ aPts m c i) : sProp 𝕄) from bigSep_singleton)) $$ Hpay
  icases Hp with ⟨Hb, Ha⟩
  unfold bPts
  iapply (wp_load 𝒱₀ (c : Thread nD τ) none Set.univ (m := bM) (S := (bSlot i).view.set) (f := bufF m c)
    (by rw [← bAccess_set, View.set_slice]; exact subset_rfl)) $$ Hb
  iintro Hb
  iapply Hk
  isplitl [HO]; · iexact HO
  isplitl [Hcs]; · iexact Hcs
  isplitl [Hats]; · iexact Hats
  isplitl [Hb Ha Hat]
  · unfold copyOut bPts
    isplitl [Hb]; · iexact Hb
    isplitl [Ha]; · iexact Ha
    iexact Hat
  iexact Hdid

/-! ## The device's own row -/

/-- The load of the own row, whose value is not used, and the store of the sum into it. -/
theorem step_own (c : Dev nD) {o o' : Fin 3 → ℕ} {h h'} (ho : o = ![c.val, 0, 0]) (ho' : o' = ![c.val, 0, 0]) {w : FVec F S1x1x1024 .f32}
    (hw : w = acc m c) {hl hx hm} {α : Type} {Q : α → sProp 𝕄} {p : PUnit → Prog (TpuEff nD τ sig (Elt F) Λ₀ .tc) α} :
    iprop(∃ f, gPts c c fullShare f)
      ⊢ iprop((gPts c c fullShare (tabF m) -∗ wpc c (p ⟨⟩) Q)
          -∗ wpc c (.op (.load gM (Rect.unit (s := S8x1x1024) o S1x1x1024.size h).toLoadRect hl) fun _ =>
              .op (.store gM (Rect.unit (s := S8x1x1024) o' S1x1x1024.size h') w Finset.univ hx hm) p) Q) := by
  subst ho ho' hw
  iintro ⟨%f, Hg⟩ Hk
  unfold gPts
  iapply (wp_load 𝒱₀ (c : Thread nD τ) none Set.univ (m := gM) (S := (gRow c).view.set) (f := f)
    (by rw [← gAccess_set, View.set_slice]; exact subset_rfl)) $$ Hg
  iintro Hg
  iapply (wp_store 𝒱₀ (c : Thread nD τ) none Set.univ (m := gM) (r := gRect c) (Mk := Finset.univ) (S := (gRow c).view.set) (f := f)
    (by rw [← gAccess_set]; exact subset_rfl)) $$ Hg
  iintro Hg
  iapply Hk
  ihave Hr := (Entails.of_eq (row_stored m c f)) $$ Hg
  unfold gPts
  iexact Hr

/-! ## The transfers of the own row -/

/-- For transfer `k`: the right to its send cell, the right to the peer's receive cell, a share of the own row, the peer's row; -/
def sendIn (c : Dev nD) (k : Fin 7) : sProp 𝕄 :=
  iprop(dutyTok ER (cell c (some (1, k.castSucc))) 0 c ∗ dutyTok ER (cell (peer c k) (some (2, c))) 0 c
    ∗ gPts c c (sendShare k) (tabF m) ∗ ∃ f, gPts (peer c k) c fullShare f)
/-- the credit its send wait will spend; -/
def sendCred (c : Dev nD) (k : Fin 7) : sProp 𝕄 := cred (tallyAt (cell c (some (1, k.castSucc))) () NR)
/-- what the send wait returns; -/
def sendOut (c : Dev nD) (k : Fin 7) : sProp 𝕄 :=
  iprop(gPts c c (sendShare k) (tabF m) ∗ atPos ER (cell c (some (1, k.castSucc))) 1 ∅ 0)
/-- the credit of the wait for peer `k`'s row. -/
def recvCred (c : Dev nD) (k : Fin 7) : sProp 𝕄 := cred (tallyAt (cell c (some (2, peer c k))) () NR)
/-- What that wait returns: the peer's row, filled. -/
def recvOut (c : Dev nD) (k : Fin 7) : sProp 𝕄 :=
  iprop(gPts c (peer c k) fullShare (tabF m) ∗ atPos ER (cell c (some (2, peer c k))) 1 ∅ 0)

/-- A send cell has one payer, its device; -/
theorem sduties_send (c : Dev nD) (k : Fin 7) : sduties c (some (1, k.castSucc)) = {c} := if_pos k.isLt
/-- a receive cell has one, the row's device; -/
theorem sduties_recv {d p : Dev nD} (h : p ≠ d) : sduties d (some (2, p)) = {p} := if_neg h
/-- and a send cell hands back the share that was read. -/
theorem spayload_send (c p : Dev nD) (k : Fin 7) : spayload m c p (some (1, k.castSucc)) = gPts c c (sendShare k) (tabF m) :=
  dif_pos k.isLt

/-- Transfer `k`. -/
theorem step_send (c : Dev nD) (k : Fin 7) (x y : ℕ) (hx : k.val = x) (hy : k.val + 1 = y) {n : Dev nD} (hn : n = peer c k) {o o' : Fin 3 → ℕ} {h h'} (ho : o = ![c.val, 0, 0])
    (ho' : o' = ![c.val, 0, 0]) {ss rs : SemLoc sig} (hss : ss = csem (some (1, k.castSucc))) (hrs : rs = csem (some (2, c)))
    {hsc hsrc hdst hsem} {α : Type} {Q : α → sProp 𝕄} {p : PUnit → Prog (TpuEff nD τ sig (Elt F) Λ₀ .tc) α} :
    iprop(ctx m K ∗ owed c (OR c x) ∗ bigSep (todo x) (sendIn m c) ∗ bigSep (did x) (sendCred c))
      ⊢ iprop(((owed c (OR c y) ∗ bigSep (todo y) (sendIn m c) ∗ bigSep (did y) (sendCred c))
            -∗ wpc c (p ⟨⟩) Q)
          -∗ wpc c (.op (.enqueueDma (gAt o h) (.remote (Dev.tc n) (gAt o' h') ss hsc) rs hsrc hdst hsem) p) Q) := by
  subst hx hy
  subst hn ho ho' hss hrs
  rw [bigSep_todo, bigSep_did]
  unfold owed
  unfold ctx
  iintro ⟨⟨#HR, #Hlev⟩, ⟨%W, HO⟩, ⟨Hin, Htodo⟩, Hdid⟩ Hk
  unfold sendIn gPts
  icases Hin with ⟨Hts, Htr, Hg, ⟨%f, Hf⟩⟩
  iapply (Rounds.wp_send_pointsTo 𝒱₀ ER (ringRd m) (c : Thread nD τ) none (c' := (peer c k : Thread nD τ)) (src := gRow c) (dst := gRow c)
      (κ₁ := K (c, some (1, k.castSucc))) (κ₂ := K (peer c k, some (2, c))) (r₁ := 0) (r₂ := 0) (d₁ := c) (d₂ := c) (fd := f)
      (by rw [duties_cell, sduties_send]; exact Finset.mem_singleton_self c)
      (by rw [duties_cell, sduties_recv (peer_ne c k).symm]; exact Finset.mem_singleton_self c)
      () () NR (amount_NR c (2, c)) (amount_cell m c _ c) (amount_cell m (peer c k) (some (2, c)) c) (OR c (k.val + 1)) (OR_step c k)
      (by rw [payload_cell, spayload_send]; exact .rfl)
      (by rw [row_landed, payload_cell]; exact .rfl)) $$ [HO Hts Htr Hg Hf]
  · isplitr; · iapply (records_inv m K c (some (1, k.castSucc))); iexact HR
    isplitr; · iapply (records_inv m K (peer c k) (some (2, c))); iexact HR
    isplitl [Hg]; · iexact Hg
    isplitl [Hf]; · iexact Hf
    isplitl [HO]; · iexact HO
    isplitl [Hts]; · iexact Hts
    isplitr; · iapply (records_reached m K c (some (1, k.castSucc))); iexact HR
    isplitl [Htr]; · iexact Htr
    iapply (records_reached m K (peer c k) (some (2, c))); iexact HR
  iintro ⟨Hc, HO⟩
  iapply Hk
  isplitl [HO]; · iexists _; iexact HO
  isplitl [Htodo]; · iexact Htodo
  isplitl [Hc]; · unfold sendCred; iexact Hc
  iexact Hdid

/-- The wait for peer `k`'s row. -/
theorem step_recvWait (c : Dev nD) (k : Fin 7) (x y : ℕ) (hx : k.val = x) (hy : k.val + 1 = y) {o o' : Fin 3 → ℕ} {h h'} {sm : DmaSem sig} (hs : SemLoc.dma sm = csem (some (2, peer c k)))
    {hsrc hdst} {α : Type} {Q : α → sProp 𝕄} {p : PUnit → Prog (TpuEff nD τ sig (Elt F) Λ₀ .tc) α} :
    iprop(ctx m K ∗ owed c 0 ∗ bigSep (todo x) (recvCred c)
        ∗ bigSep (todo x) (fun k => atPos ER (cell c (some (2, peer c k))) 0 ∅ 0) ∗ bigSep (did x) (recvOut m c))
      ⊢ iprop(((owed c 0 ∗ bigSep (todo y) (recvCred c)
              ∗ bigSep (todo y) (fun k => atPos ER (cell c (some (2, peer c k))) 0 ∅ 0) ∗ bigSep (did y) (recvOut m c))
            -∗ wpc c (p ⟨⟩) Q)
          -∗ wpc c (.op (.waitDma2 sm (gAt o h) (gAt o' h') hsrc hdst) p) Q) := by
  subst hx hy
  have hw : ∀ J : PUnit → sProp 𝕄, wpE (defs₀ (F := F)) 𝒱₀ (c : Thread nD τ) none Set.univ
      (.waitDma2 sm (gAt o h) (gAt o' h') hsrc hdst) J = waitSpec (c : Thread nD τ) Set.univ (csem (some (2, peer c k))) NR J :=
    fun J => by rw [← hs]; exact wpE_waitDma2_eq 𝒱₀ (c : Thread nD τ) none Set.univ J
  rw [bigSep_todo, bigSep_todo, bigSep_did]
  unfold ctx
  iintro ⟨⟨#HR, #Hlev⟩, HO, ⟨Hc, Hcs⟩, ⟨Hat, Hats⟩, Hdid⟩ Hk
  unfold recvCred
  iapply (wp_wait_cell m K c (some (2, peer c k)) hw
    (by rw [sduties_recv (peer_ne c k)]; show NR = 1 * NR; omega) 0 (mayWait c _ 0 fun g u hg => absurd hg (Nat.lt_irrefl 0))) $$ [HO Hc Hat]
  · isplitr; · iexact HR
    isplitr; · iexact Hlev
    isplitl [HO]; · iexact HO
    isplitl [Hc]; · iexact Hc
    iexact Hat
  iintro ⟨HO, Hat, Hpay⟩
  ihave Hp := (Entails.of_eq (show bigSep (sduties c (some (2, peer c k))) (fun q => spayload m c q (some (2, peer c k)))
    = (gPts c (peer c k) fullShare (tabF m) : sProp 𝕄) from by rw [sduties_recv (peer_ne c k)]; exact bigSep_singleton)) $$ Hpay
  iapply Hk
  isplitl [HO]; · iexact HO
  isplitl [Hcs]; · iexact Hcs
  isplitl [Hats]; · iexact Hats
  isplitl [Hp Hat]
  · unfold recvOut
    isplitl [Hp]; · iexact Hp
    iexact Hat
  iexact Hdid

/-- The wait for transfer `k` to have read the own row. -/
theorem step_sendWait (c : Dev nD) (k : Fin 7) (x y : ℕ) (hx : k.val = x) (hy : k.val + 1 = y) {o o' : Fin 3 → ℕ} {h h'} {sm : DmaSem sig} (hs : SemLoc.dma sm = csem (some (1, k.castSucc)))
    {hsrc hdst} {α : Type} {Q : α → sProp 𝕄} {p : PUnit → Prog (TpuEff nD τ sig (Elt F) Λ₀ .tc) α} :
    iprop(ctx m K ∗ owed c 0 ∗ bigSep (todo x) (sendCred c)
        ∗ bigSep (todo x) (fun k => atPos ER (cell c (some (1, k.castSucc))) 0 ∅ 0) ∗ bigSep (did x) (sendOut m c))
      ⊢ iprop(((owed c 0 ∗ bigSep (todo y) (sendCred c)
              ∗ bigSep (todo y) (fun k => atPos ER (cell c (some (1, k.castSucc))) 0 ∅ 0) ∗ bigSep (did y) (sendOut m c))
            -∗ wpc c (p ⟨⟩) Q)
          -∗ wpc c (.op (.waitDma2 sm (gAt o h) (gAt o' h') hsrc hdst) p) Q) := by
  subst hx hy
  have hw : ∀ J : PUnit → sProp 𝕄, wpE (defs₀ (F := F)) 𝒱₀ (c : Thread nD τ) none Set.univ
      (.waitDma2 sm (gAt o h) (gAt o' h') hsrc hdst) J = waitSpec (c : Thread nD τ) Set.univ (csem (some (1, k.castSucc))) NR J :=
    fun J => by rw [← hs]; exact wpE_waitDma2_eq 𝒱₀ (c : Thread nD τ) none Set.univ J
  rw [bigSep_todo, bigSep_todo, bigSep_did]
  unfold ctx
  iintro ⟨⟨#HR, #Hlev⟩, HO, ⟨Hc, Hcs⟩, ⟨Hat, Hats⟩, Hdid⟩ Hk
  unfold sendCred
  iapply (wp_wait_cell m K c (some (1, k.castSucc)) hw
    (by rw [sduties_send]; show NR = 1 * NR; omega) 0 (mayWait c _ 0 fun g u hg => absurd hg (Nat.lt_irrefl 0))) $$ [HO Hc Hat]
  · isplitr; · iexact HR
    isplitr; · iexact Hlev
    isplitl [HO]; · iexact HO
    isplitl [Hc]; · iexact Hc
    iexact Hat
  iintro ⟨HO, Hat, Hpay⟩
  ihave Hp := (Entails.of_eq (show bigSep (sduties c (some (1, k.castSucc))) (fun q => spayload m c q (some (1, k.castSucc)))
    = (gPts c c (sendShare k) (tabF m) : sProp 𝕄) from by rw [sduties_send, bigSep_singleton, spayload_send])) $$ Hpay
  iapply Hk
  isplitl [HO]; · iexact HO
  isplitl [Hcs]; · iexact Hcs
  isplitl [Hats]; · iexact Hats
  isplitl [Hp Hat]
  · unfold sendOut
    isplitl [Hp]; · iexact Hp
    iexact Hat
  iexact Hdid

end Cert.MeanProof

end
-- ==== Proof.Body.lean ====
/-
# The kernel's body on one device

The body is its effects in program order, each by its rule of `Steps.lean`: the seven barrier units, the eight copies, their
waits each with the load of its slot, the barrier's wait, the store of the sum, the seven transfers, the seven waits for the
peers' rows, the seven waits for the transfers, and the sum of the table's rows stored as the result.
-/
module

public import proofs.«01_k».proof.Proof.Steps

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## Families over the semaphores of a device -/

/-- The device itself and its peers. -/
theorem split_self (c : Dev nD) (Φ : Fin 8 → sProp 𝕄) :
    bigSep Finset.univ Φ = iprop(Φ c ∗ bigSep Finset.univ fun k : Fin 7 => Φ (peer c k)) := by
  rw [bigSep_erase (Finset.mem_univ c), others_eq, bigSep_map]; rfl
/-- The last of eight and the seven before it. -/
theorem split_last (Φ : Fin 8 → sProp 𝕄) :
    bigSep Finset.univ Φ = iprop(Φ 7 ∗ bigSep Finset.univ fun k : Fin 7 => Φ k.castSucc) := by
  have h : (Finset.univ : Finset (Fin 8)).erase 7 = Finset.univ.map ⟨Fin.castSucc, Fin.castSucc_injective 7⟩ := by decide
  rw [bigSep_erase (Finset.mem_univ (7 : Fin 8)), h, bigSep_map]; rfl
/-- The 24 semaphores of the kernel: the copies', the sends', the receives'. -/
theorem split_own (c : Dev nD) (Φ : Fin 3 × Fin 8 → sProp 𝕄) :
    bigSep Finset.univ Φ = iprop((bigSep Finset.univ fun i : Fin 8 => Φ (0, i))
      ∗ (Φ (1, 7) ∗ bigSep Finset.univ fun k : Fin 7 => Φ (1, k.castSucc))
      ∗ (Φ (2, c) ∗ bigSep Finset.univ fun k : Fin 7 => Φ (2, peer c k))) := by
  rw [bigSep_univ_prod, bigSep_univ_eq_bigSepL [(0 : Fin 3), 1, 2] (by decide) (by decide), ← split_self c fun s => Φ (2, s),
    ← split_last fun k => Φ (1, k)]
  rfl
/-- All 25 with the barrier's. -/
theorem split_slots (Φ : Slot → sProp 𝕄) :
    bigSep Finset.univ Φ = iprop(Φ none ∗ bigSep Finset.univ fun x : Fin 3 × Fin 8 => Φ (some x)) := by
  have h : (Finset.univ : Finset Slot).erase none = Finset.univ.map Function.Embedding.some := by decide
  rw [bigSep_erase (Finset.mem_univ (none : Slot)), h, bigSep_map]; rfl

/-! ## What the body starts from and leaves -/

/-- The rights to the duties device `c` pays. -/
def payToks (c : Dev nD) : sProp 𝕄 :=
  iprop((bigSep Finset.univ fun k : Fin 7 => dutyTok ER (cell (peer c k) none) 0 c)
    ∗ (bigSep Finset.univ fun i : Fin 8 => dutyTok ER (cell c (some (0, i))) 0 c)
    ∗ (bigSep Finset.univ fun k : Fin 7 => dutyTok ER (cell c (some (1, k.castSucc))) 0 c)
    ∗ (bigSep Finset.univ fun k : Fin 7 => dutyTok ER (cell (peer c k) (some (2, c))) 0 c))

/-- A device's positions in its cells, its rights, its launch credits, the records and levels: -/
def ghost (c : Dev nD) : sProp 𝕄 :=
  iprop(records m K ∗ (bigSep Finset.univ fun s : Slot => atPos ER (cell c s) 0 ∅ 0) ∗ payToks c)

/-- What a device brings to the point: its ghost state, the levels, the credits of its barrier and of its peers' rows, its argument. -/
def start (c : Dev nD) : sProp 𝕄 :=
  iprop((∃ K, ghost m K c) ∗ levAts L lv ∗ cred (tallyAt (cell c none) () 7) ∗ (bigSep Finset.univ fun k : Fin 7 => recvCred c k)
    ∗ ((c : Thread nD τ).loc main_arg0) ↦{fullShare} arg m c)

/-- before the point, with the two scratch buffers at any contents; -/
def Φ₀ (c : Dev nD) : sProp 𝕄 :=
  iprop(start m c ∗ (∃ f : Buf (Elt F) ((c : Thread nD τ).loc cc0_scratch0), ((c : Thread nD τ).loc cc0_scratch0) ↦{fullShare} f)
    ∗ ∃ f : Buf (Elt F) ((c : Thread nD τ).loc cc0_scratch2), ((c : Thread nD τ).loc cc0_scratch2) ↦{fullShare} f)

/-- after it: the argument as it was, every semaphore at zero, the scratch buffers at what the exchange left. -/
def Φ₁ (c : Dev nD) : sProp 𝕄 :=
  iprop((((c : Thread nD τ).loc main_arg0) ↦{fullShare} arg m c)
    ∗ semVal (cell c none) 0 ∗ (bigSep Finset.univ fun x : Fin 3 × Fin 8 => semVal (cell c (some x)) 0)
    ∗ (((c : Thread nD τ).loc cc0_scratch0) ↦{fullShare} bufF m c)
    ∗ ((c : Thread nD τ).loc cc0_scratch2) ↦{fullShare} tabF m)

/-! ## Between the phases -/

/-- Contents forgotten. -/
theorem gPts_any (c : Dev nD) (s : Fin 8) (q : PosShare TreeShare) (f : (cc0_scratch2 : Ref sig .tc).ty.Contents (Elt F)) :
    (gPts c s q f : sProp 𝕄) ⊢ iprop(∃ f, gPts c s q f) := by iintro H; iexists f; iexact H
/-- The same of a slot of the buffer. -/
theorem bPts_any (c : Dev nD) (i : Fin 8) (f : (cc0_scratch0 : Ref sig .tc).ty.Contents (Elt F)) :
    (bPts c i f : sProp 𝕄) ⊢ iprop(∃ f, bPts c i f) := by iintro H; iexists f; iexact H

/-- The rights to the units and the rows of the table for the peers. -/
theorem sig_start (c : Dev nD) (f : (cc0_scratch2 : Ref sig .tc).ty.Contents (Elt F)) :
    iprop((bigSep Finset.univ fun k : Fin 7 => dutyTok ER (cell (peer c k) none) 0 c)
        ∗ ((c : Thread nD τ).loc cc0_scratch2) ↦{fullShare} f)
      ⊢ iprop((∃ f, gPts c c fullShare f) ∗ bigSep (todo (N := 7) 0) (sigIn (F := F) c)) := by
  rw [tab_pieces, split_self c, todo_zero]
  unfold sigIn
  rw [bigSep_sep']
  iintro ⟨Ht, ⟨Hc, Hrows⟩⟩
  isplitl [Hc]; · iexists f; iexact Hc
  isplitl [Ht]; · iexact Ht
  iapply (show (bigSep Finset.univ fun k : Fin 7 => (gPts c (peer c k) fullShare f : sProp 𝕄))
      ⊢ bigSep Finset.univ fun k : Fin 7 => (iprop(∃ f, gPts c (peer c k) fullShare f) : sProp 𝕄) from
    bigSep_mono fun k _ => gPts_any c (peer c k) fullShare f)
  iexact Hrows

/-- The slots, the blocks and the rights of the copies. -/
theorem copy_start (c : Dev nD) (f : (cc0_scratch0 : Ref sig .tc).ty.Contents (Elt F)) :
    iprop((((c : Thread nD τ).loc cc0_scratch0) ↦{fullShare} f) ∗ (((c : Thread nD τ).loc main_arg0) ↦{fullShare} arg m c)
        ∗ bigSep Finset.univ fun i : Fin 8 => dutyTok ER (cell c (some (0, i))) 0 c)
      ⊢ iprop(bigSep (todo (N := 8) 0) (copyIn m c) ∗ bigSep (did (N := 8) 0) (copyCred (F := F) c)) := by
  rw [buf_pieces, arg_pieces, todo_zero, did_zero, bigSep_empty]
  unfold copyIn
  rw [bigSep_sep', bigSep_sep']
  iintro ⟨Hb, Ha, Ht⟩
  isplitl
  · isplitl [Hb]
    · iapply (show (bigSep Finset.univ fun i : Fin 8 => (bPts c i f : sProp 𝕄))
          ⊢ bigSep Finset.univ fun i : Fin 8 => (iprop(∃ f, bPts c i f) : sProp 𝕄) from
        bigSep_mono fun i _ => bPts_any c i f)
      iexact Hb
    isplitl [Ha] <;> iassumption
  · iempintro

/-- The buffer filled, the argument whole again. -/
theorem copy_end (c : Dev nD) :
    bigSep (did (N := 8) 8) (copyOut m c)
      ⊢ iprop((((c : Thread nD τ).loc cc0_scratch0) ↦{fullShare} bufF m c) ∗ (((c : Thread nD τ).loc main_arg0) ↦{fullShare} arg m c)
          ∗ bigSep Finset.univ fun i : Fin 8 => atPos ER (cell c (some (0, i))) 1 ∅ 0) := by
  rw [buf_pieces, arg_pieces, did_end]
  unfold copyOut
  rw [bigSep_sep', bigSep_sep']

/-- The own row dealt to the seven transfers, with the peers' rows and the rights. -/
theorem send_start (c : Dev nD) :
    iprop(gPts c c fullShare (tabF m) ∗ (bigSep Finset.univ fun k : Fin 7 => iprop(∃ f, gPts (peer c k) c fullShare f))
        ∗ (bigSep Finset.univ fun k : Fin 7 => dutyTok ER (cell c (some (1, k.castSucc))) 0 c)
        ∗ (bigSep Finset.univ fun k : Fin 7 => dutyTok ER (cell (peer c k) (some (2, c))) 0 c))
      ⊢ iprop(gPts c c (Transfers.shareDrop fullShare 7) (tabF m) ∗ bigSep (todo (N := 7) 0) (sendIn m c)
          ∗ bigSep (did (N := 7) 0) (sendCred (F := F) c)) := by
  rw [todo_zero, did_zero, bigSep_empty]
  unfold sendIn
  rw [bigSep_sep', bigSep_sep', bigSep_sep']
  iintro ⟨Hg, Hrows, Hs, Hr⟩
  unfold gPts
  ihave Hg' := (Transfers.pointsTo_toks_split fullShare 7) $$ Hg
  icases Hg' with ⟨Hd, Hks⟩
  isplitl [Hd]; · iexact Hd
  isplitl
  · isplitl [Hs]; · iexact Hs
    isplitl [Hr]; · iexact Hr
    isplitl [Hks] <;> iassumption
  · iempintro

/-! What each phase starts from, as the families of its rule. -/

/-- The barrier units start with all seven unpaid and both debts whole. -/
theorem units_start (c : Dev nD) :
    iprop(ctx m K ∗ owed c (O₀ c) ∗ bigSep (todo (N := 7) 0) (sigIn c))
      ⊢ iprop(ctx m K ∗ owed c (OR c 0 + OB c 0) ∗ bigSep (todo (N := 7) 0) (sigIn (F := F) c)) := .rfl
/-- The copies start with all eight to come. -/
theorem copies_start (c : Dev nD) :
    iprop(ctx m K ∗ bigSep (todo (N := 8) 0) (copyIn m c) ∗ bigSep (did (N := 8) 0) (copyCred c))
      ⊢ iprop(ctx m K ∗ bigSep (todo (N := 8) 0) (copyIn m c) ∗ bigSep (did (N := 8) 0) (copyCred (F := F) c)) := .rfl
/-- Their waits start with every copy under way, every barrier unit paid, and no slot back yet. -/
theorem copyWaits_start (c : Dev nD) :
    iprop(ctx m K ∗ owed c (OR c 0 + OB c 7) ∗ bigSep (did (N := 8) 8) (copyCred c)
        ∗ bigSep Finset.univ fun i : Fin 8 => atPos ER (cell c (some (0, i))) 0 ∅ 0)
      ⊢ iprop(ctx m K ∗ owed c (OR c 0) ∗ bigSep (todo (N := 8) 0) (copyCred c)
        ∗ bigSep (todo (N := 8) 0) (fun i => atPos ER (cell c (some (0, i))) 0 ∅ 0) ∗ bigSep (did (N := 8) 0) (copyOut m c)) := by
  rw [OB_end, add_zero, did_end, todo_zero, did_zero, bigSep_empty]
  iintro ⟨H1, H2, H3, H4⟩
  isplitl [H1]; · iexact H1
  isplitl [H2]; · iexact H2
  isplitl [H3]; · iexact H3
  isplitl [H4]; · iexact H4
  iempintro
/-- The transfers start with all seven to come. -/
theorem sends_start (c : Dev nD) :
    iprop(ctx m K ∗ owed c (OR c 0) ∗ bigSep (todo (N := 7) 0) (sendIn m c) ∗ bigSep (did (N := 7) 0) (sendCred c))
      ⊢ iprop(ctx m K ∗ owed c (OR c 0) ∗ bigSep (todo (N := 7) 0) (sendIn m c) ∗ bigSep (did (N := 7) 0) (sendCred (F := F) c)) := .rfl
/-- The waits for the peers' rows start with nothing owed any more, and no row back yet. -/
theorem recvWaits_start (c : Dev nD) :
    iprop(ctx m K ∗ owed c (OR c 7) ∗ (bigSep Finset.univ fun k : Fin 7 => recvCred c k)
        ∗ bigSep Finset.univ fun k : Fin 7 => atPos ER (cell c (some (2, peer c k))) 0 ∅ 0)
      ⊢ iprop(ctx m K ∗ owed c 0 ∗ bigSep (todo (N := 7) 0) (recvCred c)
        ∗ bigSep (todo (N := 7) 0) (fun k => atPos ER (cell c (some (2, peer c k))) 0 ∅ 0) ∗ bigSep (did (N := 7) 0) (recvOut m c)) := by
  rw [OR_end, todo_zero, did_zero, bigSep_empty]
  iintro ⟨H1, H2, H3, H4⟩
  isplitl [H1]; · iexact H1
  isplitl [H2]; · iexact H2
  isplitl [H3]; · iexact H3
  isplitl [H4]; · iexact H4
  iempintro
/-- The waits for the own transfers start with every transfer under way, and no share of the row back yet. -/
theorem sendWaits_start (c : Dev nD) :
    iprop(ctx m K ∗ owed c 0 ∗ bigSep (did (N := 7) 7) (sendCred c)
        ∗ bigSep Finset.univ fun k : Fin 7 => atPos ER (cell c (some (1, k.castSucc))) 0 ∅ 0)
      ⊢ iprop(ctx m K ∗ owed c 0 ∗ bigSep (todo (N := 7) 0) (sendCred c)
        ∗ bigSep (todo (N := 7) 0) (fun k => atPos ER (cell c (some (1, k.castSucc))) 0 ∅ 0) ∗ bigSep (did (N := 7) 0) (sendOut m c)) := by
  rw [did_end, todo_zero, did_zero, bigSep_empty]
  iintro ⟨H1, H2, H3, H4⟩
  isplitl [H1]; · iexact H1
  isplitl [H2]; · iexact H2
  isplitl [H3]; · iexact H3
  isplitl [H4]; · iexact H4
  iempintro

/-- The table whole, every row landed. -/
theorem table_end (c : Dev nD) :
    iprop(gPts c c (Transfers.shareDrop fullShare 7) (tabF m) ∗ bigSep (did (N := 7) 7) (sendOut m c) ∗ bigSep (did (N := 7) 7) (recvOut m c))
      ⊢ iprop((((c : Thread nD τ).loc cc0_scratch2) ↦{fullShare} tabF m)
          ∗ (bigSep Finset.univ fun k : Fin 7 => atPos ER (cell c (some (1, k.castSucc))) 1 ∅ 0)
          ∗ (bigSep Finset.univ fun k : Fin 7 => atPos ER (cell c (some (2, peer c k))) 1 ∅ 0)) := by
  rw [tab_pieces, split_self c, did_end]
  unfold sendOut recvOut
  rw [bigSep_sep', bigSep_sep']
  iintro ⟨Hd, ⟨Hks, Hs⟩, ⟨Hrows, Hr⟩⟩
  isplitl [Hd Hks Hrows]
  · isplitl [Hd Hks]
    · unfold gPts
      iapply (Transfers.pointsTo_toks_join fullShare 7)
      isplitl [Hd] <;> iassumption
    iexact Hrows
  isplitl [Hs] <;> iassumption

/-- A cell whose rounds are over goes back to its counter, which is at zero. -/
theorem close_cell (c : Dev nD) (s : Slot) (R : ℕ) (hR : ∀ r, R ≤ r → (ringRd (F := F) m).duties (cell c s) r = ∅) :
    iprop(records m K ∗ atPos ER (cell c s) R ∅ 0) ⊢ iprop(|={Set.univ}=> semVal (cell c s) 0) := by
  iintro ⟨#HR, Hat⟩
  iapply (Rounds.cell_close ER (ringRd m) (Set.mem_univ (K (c, s))) (fun h => h) (R := R) hR)
  isplitr; · iapply (records_inv m K c s); iexact HR
  iexact Hat

/-- A family of cells past round 0. -/
theorem close_family (c : Dev nD) {N : ℕ} (s : Fin N → Slot) :
    iprop(records m K ∗ bigSep Finset.univ fun k => atPos ER (cell c (s k)) 1 ∅ 0)
      ⊢ iprop(|={Set.univ}=> bigSep Finset.univ fun k => semVal (cell c (s k)) 0) :=
  ((sep_mono_left (BI.bigSep_of_persistent Finset.univ (records m K))).trans (by
    rw [← bigSep_sep']; exact bigSep_mono fun k _ => close_cell m K c (s k) 1 (duties_later m _))).trans (bigSep_fupd _ _)

/-- All of a device's cells: the two never used are closed where they started. -/
theorem close_all (c : Dev nD) :
    iprop(records m K ∗ atPos ER (cell c none) 1 ∅ 0
        ∗ (bigSep Finset.univ fun i : Fin 8 => atPos ER (cell c (some (0, i))) 1 ∅ 0)
        ∗ atPos ER (cell c (some (1, 7))) 0 ∅ 0 ∗ (bigSep Finset.univ fun k : Fin 7 => atPos ER (cell c (some (1, k.castSucc))) 1 ∅ 0)
        ∗ atPos ER (cell c (some (2, c))) 0 ∅ 0 ∗ (bigSep Finset.univ fun k : Fin 7 => atPos ER (cell c (some (2, peer c k))) 1 ∅ 0))
      ⊢ iprop(|={Set.univ}=> (semVal (cell c none) 0 ∗ bigSep Finset.univ fun x : Fin 3 × Fin 8 => semVal (cell c (some x)) 0)) := by
  have h0 : ∀ s : Slot, sduties c s = ∅ → ∀ r, 0 ≤ r → (ringRd (F := F) m).duties (cell c s) r = ∅ := fun s hs r _ => by
    rcases Nat.eq_zero_or_pos r with rfl | hr
    · rw [duties_cell]; exact hs
    · exact duties_later m _ r hr
  rw [split_own c]
  iintro ⟨#HR, Hb, Hc, Hs7, Hs, Hrc, Hr⟩
  imod (close_cell m K c none 1 (duties_later m _)) $$ [Hb] with Hb
  · isplitr; · iexact HR
    iexact Hb
  imod (close_family m K c fun i : Fin 8 => some (0, i)) $$ [Hc] with Hc
  · isplitr; · iexact HR
    iexact Hc
  imod (close_cell m K c (some (1, 7)) 0 (h0 _ rfl)) $$ [Hs7] with Hs7
  · isplitr; · iexact HR
    iexact Hs7
  imod (close_family m K c fun k : Fin 7 => some (1, k.castSucc)) $$ [Hs] with Hs
  · isplitr; · iexact HR
    iexact Hs
  imod (close_cell m K c (some (2, c)) 0 (h0 _ (if_pos rfl))) $$ [Hrc] with Hrc
  · isplitr; · iexact HR
    iexact Hrc
  imod (close_family m K c fun k : Fin 7 => some (2, peer c k)) $$ [Hr] with Hr
  · isplitr; · iexact HR
    iexact Hr
  imodintro
  isplitl [Hb]; · iexact Hb
  isplitl [Hc]; · iexact Hc
  isplitl [Hs7 Hs]
  · isplitl [Hs7] <;> iassumption
  isplitl [Hrc] <;> iassumption

/-! ## The body -/

/-- What the body is entered with: the start, both scratch buffers and the result's staging buffer at any contents. -/
def bodyPre (c : Dev nD) : sProp 𝕄 :=
  iprop((ghost m K c ∗ levAts L lv ∗ cred (tallyAt (cell c none) () 7) ∗ (bigSep Finset.univ fun k : Fin 7 => recvCred c k)
      ∗ ((c : Thread nD τ).loc main_arg0) ↦{fullShare} arg m c)
    ∗ (∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f)
    ∗ owed c (O₀ c)
    ∗ ∃ f : Buf (Elt F) ((c : Thread nD τ).loc cc0_stg0_0), ((c : Thread nD τ).loc cc0_stg0_0) ↦{fullShare} f)

/-- What it leaves: the exchange done, nothing owed, the mean in the staging buffer. -/
def bodyPost (c : Dev nD) : sProp 𝕄 :=
  iprop(Φ₁ m c ∗ owed c 0 ∗ ((c : Thread nD τ).loc cc0_stg0_0) ↦{fullShare} outV m)

/-- Zero offsets in two dimensions, -/
theorem hz2 : (![0, 0] : Fin 2 → ℕ) = fun _ => 0 := funext fun a => by fin_cases a <;> rfl
/-- and in three. -/
theorem hz3 : (![0, 0, 0] : Fin 3 → ℕ) = fun _ => 0 := funext fun a => by fin_cases a <;> rfl

/-- Reading the whole table gives its contents. -/
theorem read_table {h} (f : (cc0_scratch2 : Ref sig .tc).ty.Contents (Elt F)) :
    (gM : Memref sig .tc .vmem S8x1x1024 .f32).view.readAt (Elt F) (Rect.unit (s := S8x1x1024) ![0, 0, 0] S8x1x1024.size h).toLoadRect f = f :=
  Memref.readAt_unit_zero (Elt F) cc0_scratch2 hz3 _ f
/-- Writing the whole result leaves what was written. -/
theorem write_result {h} (f w : (cc0_stg0_0 : Ref sig .tc).ty.Contents (Elt F)) :
    ((oM : Memref sig .tc .vmem S1x1024 .f32).access (Rect.unit (s := S1x1024) ![0, 0] S1x1024.size h) : View sig .tc _ _ _).write (Elt F) f w Finset.univ = w :=
  Memref.write_access_unit_zero_univ (Elt F) cc0_stg0_0 hz2 _ f w

/-- The body's last three effects: the table read whole, its rows' sum stored over the result. -/
theorem step_result (c : Dev nD) {h3 h2 h3' hl hl' hx hm} (g : (cc0_stg0_0 : Ref sig .tc).ty.Contents (Elt F)) {α : Type} {Q : α → sProp 𝕄}
    {p : PUnit → Prog (TpuEff nD τ sig (Elt F) Λ₀ .tc) α} :
    iprop((((c : Thread nD τ).loc cc0_scratch2) ↦{fullShare} tabF m) ∗ ((c : Thread nD τ).loc cc0_stg0_0) ↦{fullShare} g)
      ⊢ iprop((((((c : Thread nD τ).loc cc0_scratch2) ↦{fullShare} tabF m) ∗ ((c : Thread nD τ).loc cc0_stg0_0) ↦{fullShare} outV m) -∗ wpc c (p ⟨⟩) Q)
          -∗ wpc c (.op (.load gM (Rect.unit (s := S8x1x1024) ![0, 0, 0] S8x1x1024.size h3).toLoadRect hl) fun v =>
              .op (.load oM (Rect.unit (s := S1x1024) ![0, 0] S1x1024.size h2).toLoadRect hl') fun _ =>
              .op (.store oM (Rect.unit (s := S1x1024) ![0, 0] S1x1024.size h3') (k0_pay1 v) Finset.univ hx hm) p) Q) := by
  iintro ⟨Ht, Ho⟩ Hk
  iapply (wp_load 𝒱₀ (c : Thread nD τ) none Set.univ (m := gM) (Finset.subset_univ _)) $$ Ht
  iintro Ht
  rw [read_table]
  iapply (wp_load 𝒱₀ (c : Thread nD τ) none Set.univ (m := oM) (Finset.subset_univ _)) $$ Ho
  iintro Ho
  iapply (wp_store 𝒱₀ (c : Thread nD τ) none Set.univ (m := oM) (r := Rect.unit (s := S1x1024) ![0, 0] S1x1024.size h3') (Mk := Finset.univ) (Finset.subset_univ _)) $$ Ho
  iintro Ho
  rw [write_result]
  iapply Hk
  isplitl [Ht]; · iexact Ht
  iexact Ho

/-- The receive semaphore the device waits on for the row of its peer `r`. -/
theorem recvOff (c : Dev nD) (r : Fin 7) : k0_off4 c (BitVec.ofNat 32 (1 + r.val)) = ![(peer c r).val] :=
  (k0_off4_eq c r).trans (by rw [Nat.add_assoc]; rfl)

set_option maxHeartbeats 4000000 in
/-- The whole body. -/
theorem sound_body (c : Dev nD) (Kt : PUnit → sProp 𝕄) :
    iprop(bodyPre m K c ∗ (bodyPost m c -∗ Kt ⟨⟩))
      ⊢ wpc c (cc0_body (Memref.whole main_arg0) (Memref.isWhole_whole _) (Memref.whole cc0_stg0_0) (Memref.isWhole_whole _)
          (Memref.whole cc0_scratch0) (Memref.isWhole_whole _) cc0_scratch1 (Memref.whole cc0_scratch2) (Memref.isWhole_whole _)
          cc0_scratch3 cc0_scratch4) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  unfold bodyPre ghost payToks
  rw [split_slots, split_own c]
  iintro ⟨⟨⟨⟨#HR, ⟨HatB, HatC, ⟨Hat7, HatS⟩, ⟨Hatc, HatR⟩⟩, Htb, Htc, Hts, Htr⟩, #Hlev, HcB, HcR, Harg⟩, ⟨%f0, Hbuf⟩, ⟨%f2, Htab⟩, HO, ⟨%g, Hout⟩⟩, Hk⟩
  ihave #Hctx := (show iprop(records m K ∗ levAts L lv) ⊢ ctx m K from .rfl) $$ [HR Hlev]
  · isplitr; · iexact HR
    iexact Hlev
  ihave Hs := (sig_start c f2) $$ [Htb Htab]
  · isplitl [Htb] <;> iassumption
  icases Hs with ⟨Hown, Hsig⟩
  ihave Hcp := (copy_start m c f0) $$ [Hbuf Harg Htc]
  · isplitl [Hbuf]; · iexact Hbuf
    isplitl [Harg] <;> iassumption
  -- the barrier's units
  ihave H := (units_start m K c) $$ [HO Hsig]
  · isplitr; · iexact Hctx
    isplitl [HO] <;> iassumption
  iapply (keep (step_signal m K c 0 0 1 rfl rfl (Fin.ext (k0_dev1_eq c)) (by decide))) $$ H; iintro H
  iapply (keep (step_signal m K c 1 1 2 rfl rfl (Fin.ext (k0_dev2_eq c)) (by decide))) $$ H; iintro H
  iapply (keep (step_signal m K c 2 2 3 rfl rfl (Fin.ext (k0_dev3_eq c)) (by decide))) $$ H; iintro H
  iapply (keep (step_signal m K c 3 3 4 rfl rfl (Fin.ext (k0_dev4_eq c)) (by decide))) $$ H; iintro H
  iapply (keep (step_signal m K c 4 4 5 rfl rfl (Fin.ext (k0_dev5_eq c)) (by decide))) $$ H; iintro H
  iapply (keep (step_signal m K c 5 5 6 rfl rfl (Fin.ext (k0_dev6_eq c)) (by decide))) $$ H; iintro H
  iapply (keep (step_signal m K c 6 6 7 rfl rfl (Fin.ext (k0_dev7_eq c)) (by decide))) $$ H; iintro H
  icases H with ⟨-, HO, -⟩
  -- the copies
  ihave H := (copies_start m K c) $$ [Hcp]
  · isplitr; · iexact Hctx
    iexact Hcp
  iapply (keep (step_copy m K c 0 0 1 rfl rfl rfl rfl (copySem_eq 0 _ rfl))) $$ H; iintro H
  iapply (keep (step_copy m K c 1 1 2 rfl rfl rfl rfl (copySem_eq 1 _ rfl))) $$ H; iintro H
  iapply (keep (step_copy m K c 2 2 3 rfl rfl rfl rfl (copySem_eq 2 _ rfl))) $$ H; iintro H
  iapply (keep (step_copy m K c 3 3 4 rfl rfl rfl rfl (copySem_eq 3 _ rfl))) $$ H; iintro H
  iapply (keep (step_copy m K c 4 4 5 rfl rfl rfl rfl (copySem_eq 4 _ rfl))) $$ H; iintro H
  iapply (keep (step_copy m K c 5 5 6 rfl rfl rfl rfl (copySem_eq 5 _ rfl))) $$ H; iintro H
  iapply (keep (step_copy m K c 6 6 7 rfl rfl rfl rfl (copySem_eq 6 _ rfl))) $$ H; iintro H
  iapply (keep (step_copy m K c 7 7 8 rfl rfl rfl rfl (copySem_eq 7 _ rfl))) $$ H; iintro H
  icases H with ⟨-, -, HcC⟩
  -- their waits, each with the load of its slot
  ihave H := (copyWaits_start m K c) $$ [HO HcC HatC]
  · isplitr; · iexact Hctx
    isplitl [HO]; · iexact HO
    isplitl [HcC] <;> iassumption
  iapply (keep (step_copyWait m K c 0 0 1 rfl rfl (OR c 0) (mayWait_OR c _ 0 (by decide)) rfl rfl (copySem_eq 0 _ rfl))) $$ H; iintro H
  iapply (keep (step_copyWait m K c 1 1 2 rfl rfl (OR c 0) (mayWait_OR c _ 0 (by decide)) rfl rfl (copySem_eq 1 _ rfl))) $$ H; iintro H
  iapply (keep (step_copyWait m K c 2 2 3 rfl rfl (OR c 0) (mayWait_OR c _ 0 (by decide)) rfl rfl (copySem_eq 2 _ rfl))) $$ H; iintro H
  iapply (keep (step_copyWait m K c 3 3 4 rfl rfl (OR c 0) (mayWait_OR c _ 0 (by decide)) rfl rfl (copySem_eq 3 _ rfl))) $$ H; iintro H
  iapply (keep (step_copyWait m K c 4 4 5 rfl rfl (OR c 0) (mayWait_OR c _ 0 (by decide)) rfl rfl (copySem_eq 4 _ rfl))) $$ H; iintro H
  iapply (keep (step_copyWait m K c 5 5 6 rfl rfl (OR c 0) (mayWait_OR c _ 0 (by decide)) rfl rfl (copySem_eq 5 _ rfl))) $$ H; iintro H
  iapply (keep (step_copyWait m K c 6 6 7 rfl rfl (OR c 0) (mayWait_OR c _ 0 (by decide)) rfl rfl (copySem_eq 6 _ rfl))) $$ H; iintro H
  iapply (keep (step_copyWait m K c 7 7 8 rfl rfl (OR c 0) (mayWait_OR c _ 0 (by decide)) rfl rfl (copySem_eq 7 _ rfl))) $$ H; iintro H
  icases H with ⟨-, HO, -, -, Hcp⟩
  ihave Hcp' := (copy_end m c) $$ Hcp
  icases Hcp' with ⟨Hbuf, Harg, HatC⟩
  -- the barrier's wait
  iapply (step_barrier m K c (by decide)) $$ [HO HcB HatB]
  · isplitr; · iexact Hctx
    isplitl [HO]; · iexact HO
    isplitl [HcB] <;> iassumption
  iintro ⟨HO, HatB, Hrows⟩
  -- the own row
  iapply (step_own m c (k0_off1_eq c) (k0_off1_eq c) rfl) $$ Hown
  iintro Hown
  ihave Hs := (send_start m c) $$ [Hown Hrows Hts Htr]
  · isplitl [Hown]; · iexact Hown
    isplitl [Hrows]; · iexact Hrows
    isplitl [Hts] <;> iassumption
  icases Hs with ⟨Hdrop, Hs⟩
  -- the transfers
  ihave H := (sends_start m K c) $$ [HO Hs]
  · isplitr; · iexact Hctx
    isplitl [HO] <;> iassumption
  iapply (keep (step_send m K c 0 0 1 rfl rfl (Fin.ext (k0_dev8_eq c)) (k0_off3_eq c) (k0_off3_eq c) (sendSem_eq 0 _ rfl) (recvSem_eq c _ (k0_off2_eq c)))) $$ H; iintro H
  iapply (keep (step_send m K c 1 1 2 rfl rfl (Fin.ext (k0_dev9_eq c)) (k0_off3_eq c) (k0_off3_eq c) (sendSem_eq 1 _ rfl) (recvSem_eq c _ (k0_off2_eq c)))) $$ H; iintro H
  iapply (keep (step_send m K c 2 2 3 rfl rfl (Fin.ext (k0_dev10_eq c)) (k0_off3_eq c) (k0_off3_eq c) (sendSem_eq 2 _ rfl) (recvSem_eq c _ (k0_off2_eq c)))) $$ H; iintro H
  iapply (keep (step_send m K c 3 3 4 rfl rfl (Fin.ext (k0_dev11_eq c)) (k0_off3_eq c) (k0_off3_eq c) (sendSem_eq 3 _ rfl) (recvSem_eq c _ (k0_off2_eq c)))) $$ H; iintro H
  iapply (keep (step_send m K c 4 4 5 rfl rfl (Fin.ext (k0_dev12_eq c)) (k0_off3_eq c) (k0_off3_eq c) (sendSem_eq 4 _ rfl) (recvSem_eq c _ (k0_off2_eq c)))) $$ H; iintro H
  iapply (keep (step_send m K c 5 5 6 rfl rfl (Fin.ext (k0_dev13_eq c)) (k0_off3_eq c) (k0_off3_eq c) (sendSem_eq 5 _ rfl) (recvSem_eq c _ (k0_off2_eq c)))) $$ H; iintro H
  iapply (keep (step_send m K c 6 6 7 rfl rfl (Fin.ext (k0_dev14_eq c)) (k0_off3_eq c) (k0_off3_eq c) (sendSem_eq 6 _ rfl) (recvSem_eq c _ (k0_off2_eq c)))) $$ H; iintro H
  icases H with ⟨-, HO, -, HcS⟩
  -- the waits for the peers' rows
  ihave H := (recvWaits_start m K c) $$ [HO HcR HatR]
  · isplitr; · iexact Hctx
    isplitl [HO]; · iexact HO
    isplitl [HcR] <;> iassumption
  iapply (keep (step_recvWait m K c 0 0 1 rfl rfl (recvSem_eq (peer c 0) _ (recvOff c 0)))) $$ H; iintro H
  iapply (keep (step_recvWait m K c 1 1 2 rfl rfl (recvSem_eq (peer c 1) _ (recvOff c 1)))) $$ H; iintro H
  iapply (keep (step_recvWait m K c 2 2 3 rfl rfl (recvSem_eq (peer c 2) _ (recvOff c 2)))) $$ H; iintro H
  iapply (keep (step_recvWait m K c 3 3 4 rfl rfl (recvSem_eq (peer c 3) _ (recvOff c 3)))) $$ H; iintro H
  iapply (keep (step_recvWait m K c 4 4 5 rfl rfl (recvSem_eq (peer c 4) _ (recvOff c 4)))) $$ H; iintro H
  iapply (keep (step_recvWait m K c 5 5 6 rfl rfl (recvSem_eq (peer c 5) _ (recvOff c 5)))) $$ H; iintro H
  iapply (keep (step_recvWait m K c 6 6 7 rfl rfl (recvSem_eq (peer c 6) _ (recvOff c 6)))) $$ H; iintro H
  icases H with ⟨-, HO, -, -, HrO⟩
  -- the waits for the transfers
  ihave H := (sendWaits_start m K c) $$ [HO HcS HatS]
  · isplitr; · iexact Hctx
    isplitl [HO]; · iexact HO
    isplitl [HcS] <;> iassumption
  iapply (keep (step_sendWait m K c 0 0 1 rfl rfl (sendSem_eq 0 _ rfl))) $$ H; iintro H
  iapply (keep (step_sendWait m K c 1 1 2 rfl rfl (sendSem_eq 1 _ rfl))) $$ H; iintro H
  iapply (keep (step_sendWait m K c 2 2 3 rfl rfl (sendSem_eq 2 _ rfl))) $$ H; iintro H
  iapply (keep (step_sendWait m K c 3 3 4 rfl rfl (sendSem_eq 3 _ rfl))) $$ H; iintro H
  iapply (keep (step_sendWait m K c 4 4 5 rfl rfl (sendSem_eq 4 _ rfl))) $$ H; iintro H
  iapply (keep (step_sendWait m K c 5 5 6 rfl rfl (sendSem_eq 5 _ rfl))) $$ H; iintro H
  iapply (keep (step_sendWait m K c 6 6 7 rfl rfl (sendSem_eq 6 _ rfl))) $$ H; iintro H
  icases H with ⟨-, HO, -, -, HsO⟩
  ihave Ht := (table_end m c) $$ [Hdrop HsO HrO]
  · isplitl [Hdrop]; · iexact Hdrop
    isplitl [HsO] <;> iassumption
  icases Ht with ⟨Htab, HatS, HatR⟩
  -- the result
  iapply (step_result m c g) $$ [Htab Hout]
  · isplitl [Htab] <;> iassumption
  iintro ⟨Htab, Hout⟩
  imod (close_all m K c) $$ [HatB HatC Hat7 HatS Hatc HatR] with ⟨HzB, Hz⟩
  · isplitr; · iexact HR
    isplitl [HatB]; · iexact HatB
    isplitl [HatC]; · iexact HatC
    isplitl [Hat7]; · iexact Hat7
    isplitl [HatS]; · iexact HatS
    isplitl [Hatc] <;> iassumption
  rw [wp_ret]; imodintro
  iapply Hk
  unfold bodyPost Φ₁
  isplitl [Harg HzB Hz Hbuf Htab]
  · isplitl [Harg]; · iexact Harg
    isplitl [HzB]; · iexact HzB
    isplitl [Hz]; · iexact Hz
    isplitl [Hbuf] <;> iassumption
  isplitl [HO] <;> iassumption

end Cert.MeanProof

end
-- ==== Proof.Start.lean ====
/-
# What the launch deals each device

Three deals are made before the first instruction: each device's credit for the units its peers owe its cells, the invariant of
every cell of every device, and the tokens with which a device pays its own cells and its peers'.
-/
module

public import proofs.«01_k».proof.Proof.Body

@[expose] public section

noncomputable section

namespace Cert.MeanProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Credit -/

/-- The credit a device is dealt: its barrier's seven units, and a row's worth at the receive cell of each peer. -/
def due (c : Dev nD) : CellTallies nD τ sig Unit :=
  tallyAt (cell c none) () 7 + ∑ k : Fin 7, tallyAt (cell c (some (2, peer c k))) () NR

/-- Summing over the devices and their peers, a device may be named by the peer's side: `peer c k` sees `c` as its peer
    `k.rev`. -/
theorem sum_peers {A : Type} [AddCommMonoid A] (f : Dev nD → Dev nD → A) :
    (∑ d, ∑ k : Fin 7, f (peer d k) d) = ∑ d, ∑ k : Fin 7, f d (peer d k) := by
  rw [Finset.sum_comm, Finset.sum_comm (f := fun d (k : Fin 7) => f d (peer d k)), ← Equiv.sum_comp Fin.revPerm]
  refine Finset.sum_congr rfl fun k _ => ?_
  rw [← (Finite.injective_iff_bijective.mp (peer_inj_left k)).sum_comp (fun d => f (peer d (Fin.revPerm k)) d)]
  exact Finset.sum_congr rfl fun d _ => by rw [Fin.revPerm_apply, peer_peer]

/-- Seven single units at a cell are one tally of seven. -/
theorem seven_units (g : GSem nD τ sig) : (∑ _k : Fin 7, tallyAt g () 1 : CellTallies nD τ sig Unit) = tallyAt g () 7 := by
  simp only [Fin.sum_univ_succ, Finset.univ_eq_empty, Finset.sum_empty, add_zero, tallyAt_add]

/-- All that is owed is all that is dealt. -/
theorem owed_eq_due : (∑ d, O₀ d) = ∑ d, due d := by
  unfold O₀ due OR OB
  rw [todo_zero, Finset.sum_add_distrib, Finset.sum_add_distrib, add_comm,
    sum_peers (fun e d => tallyAt (cell e (some (2, d))) () NR), sum_peers (fun e _ => tallyAt (cell e none) () 1)]
  congr 1
  exact Finset.sum_congr rfl fun d _ => seven_units _

/-- A device's dues lie on its own cells. -/
theorem due_own (d : Dev nD) (g : GSem nD τ sig) (h : due d g ≠ 0) : g.1 = (d.tc : Thread nD τ) := by
  by_contra hn
  refine h ?_
  unfold due
  rw [Pi.add_apply, Finset.sum_apply, tallyAt_ne_cell (fun e => hn (by rw [e])),
    Finset.sum_eq_zero fun k _ => tallyAt_ne_cell (fun e => hn (by rw [e])) () NR, add_zero]

/-- The launch's credit, as the body spends it. -/
theorem creds (c : Dev nD) : (Pipeline.launchCred O₀ c : sProp 𝕄)
    ⊢ iprop(cred (tallyAt (cell c none) () 7) ∗ bigSep Finset.univ fun k : Fin 7 => recvCred c k) := by
  rw [Pipeline.launchCred_of_sum O₀ due owed_eq_due due_own]
  unfold due recvCred
  rw [← Pipeline.cred_finsetSum]
  exact (cred_add _ _).1

/-! ## Tokens and cells -/

/-- Every cell of every device. -/
def allCells : Finset (GSem nD τ sig) :=
  Finset.univ.map ⟨fun x : Dev nD × Slot => cell x.1 x.2, fun _ _ h => Prod.ext (cell_eq_iff.mp h).1 (cell_eq_iff.mp h).2⟩

/-- The duties a device pays: a unit to a peer's barrier, a copy, a transfer's departure, a transfer's arrival at a peer. -/
abbrev Duty := Fin 7 ⊕ Fin 8 ⊕ Fin 7 ⊕ Fin 7

/-- The cell that a duty of device `c` pays. -/
def dutyCell (c : Dev nD) : Duty → GSem nD τ sig
  | .inl k => cell (peer c k) none
  | .inr (.inl i) => cell c (some (0, i))
  | .inr (.inr (.inl k)) => cell c (some (1, k.castSucc))
  | .inr (.inr (.inr k)) => cell (peer c k) (some (2, c))

/-- One device pays two different cells by two different duties. -/
theorem dutyCell_inj (c : Dev nD) : Function.Injective (dutyCell c) := by
  rintro (k | i | k | k) (k' | i' | k' | k') h <;> have h := cell_eq_iff.mp h <;> simp at h
  · exact congrArg _ (peer_inj c h)
  · rw [h]
  · rw [h]
  · exact congrArg _ (congrArg _ (congrArg _ (peer_inj c h)))

/-- A duty's token: its cell, its round, its payer. -/
def tokOf (x : Dev nD × Duty) : GSem nD τ sig × ℕ × Dev nD := (dutyCell x.1 x.2, 0, x.1)

/-- No two duties have the same token. -/
theorem tokOf_inj : Function.Injective tokOf := by
  rintro ⟨c, x⟩ ⟨c', x'⟩ h
  obtain rfl : c = c' := congrArg (fun t => t.2.2) h
  exact Prod.ext rfl (dutyCell_inj c (congrArg Prod.fst h))

/-- All the tokens. -/
def allToks : Finset (GSem nD τ sig × ℕ × Dev nD) := Finset.univ.map ⟨tokOf, tokOf_inj⟩

/-- The minted tokens are already grouped by the device that pays with them. -/
theorem allToks_eq : bigSep allToks (fun x => (dutyTok ER x.1 x.2.1 x.2.2 : sProp 𝕄)) = bigSep Finset.univ fun c : Dev nD => payToks c := by
  unfold allToks
  rw [bigSep_map, bigSep_univ_prod]
  refine bigSep_congr fun c _ => ?_
  rw [bigSep_univ_sum, bigSep_univ_sum, bigSep_univ_sum]
  rfl

/-- A family over all the cells is one over the devices and the semaphores of each. -/
theorem allCells_eq (Φ : GSem nD τ sig → sProp 𝕄) :
    bigSep allCells Φ = bigSep Finset.univ fun c : Dev nD => bigSep Finset.univ fun s : Slot => Φ (cell c s) := by
  unfold allCells; rw [bigSep_map, bigSep_univ_prod]; rfl

/-- What the launch's ghost state is to one device. -/
def dealt (c : Dev nD) : sProp 𝕄 :=
  iprop((bigSep Finset.univ fun s : Slot => roundState ER (ringRd m) (cell c s) 0)
    ∗ (bigSep Finset.univ fun s : Slot => atPos ER (cell c s) 0 ∅ 0)
    ∗ (bigSep Finset.univ fun s : Slot => reached ER (cell c s) 0) ∗ payToks c)

/-- The launch's ghost state is minted and dealt to the devices. -/
theorem deal : BI.own (ER (initOf allCells allToks)) ⊢ (|==> bigSep Finset.univ (dealt m) : sProp 𝕄) := by
  have hd : bigSep Finset.univ (dealt m) = iprop(bigSep allCells (fun g => roundState ER (ringRd m) g 0)
      ∗ bigSep allCells (fun g => atPos ER g 0 ∅ 0) ∗ bigSep allCells (fun g => reached ER g 0)
      ∗ bigSep allToks fun x => dutyTok ER x.1 x.2.1 x.2.2) := by
    rw [allToks_eq, allCells_eq, allCells_eq, allCells_eq]; unfold dealt; simp only [bigSep_sep']
  rw [hd]
  iintro H
  imod (Rounds.fund ER (ringRd m) allCells allToks) $$ H with ⟨Hst, Hr, Hat, Htok⟩
  imodintro
  isplitl [Hst]; · iexact Hst
  isplitl [Hat]; · iexact Hat
  isplitl [Hr]; · iexact Hr
  iexact Htok

/-! ## Invariants -/

/-- The barrier is the one semaphore that outlives the kernel. -/
theorem unscoped_eq (c : Dev nD) : (unscopedSems0 c : sProp 𝕄) = semVal (cell c none) 0 := by
  unfold unscopedSems0; rw [bigSep_eq_bigSepL_of_eq [SemLoc.reg barS] (by decide) (by decide)]; rfl

/-- The kernel's own counters are those of its numbered semaphores. -/
theorem own_eq (c : Dev nD) : (Pipeline.ownSems0 (Ix := Unit) (Name := ℕ) (U := UU) (Lvl := ℕ) (Val := Elt F) (τ := τ) osem c : sProp 𝕄)
    = bigSep Finset.univ fun x : Fin 3 × Fin 8 => semVal (cell c (some x)) 0 := rfl

/-- One device's counters at zero become the invariants of its cells. -/
theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun s : Slot => iprop(∃ κ : ℕ, cellInv ER (ringRd m) κ (cell c s)))
        ∗ (bigSep Finset.univ fun s : Slot => atPos ER (cell c s) 0 ∅ 0)
        ∗ (bigSep Finset.univ fun s : Slot => reached ER (cell c s) 0) ∗ payToks c) := by
  have hinv : iprop((bigSep Finset.univ fun s : Slot => semVal (cell c s) 0) ∗ bigSep Finset.univ fun s : Slot => roundState ER (ringRd m) (cell c s) 0)
      ⊢ (|={Set.univ}=> bigSep Finset.univ fun s : Slot => iprop(∃ κ : ℕ, cellInv ER (ringRd m) κ (cell c s)) : sProp 𝕄) := by
    rw [← bigSep_sep']
    exact (bigSep_mono fun s _ => (Rounds.body_intro ER (ringRd m) (cell c s)).trans inv_alloc).trans (bigSep_fupd _ _)
  rw [split_slots (fun s : Slot => semVal (cell c s) 0)] at hinv
  rw [own_eq, unscoped_eq]; unfold dealt
  iintro ⟨Hx, Hb, Hst, Hrest⟩
  imod hinv $$ [Hx Hb Hst] with Hinv
  · isplitl [Hx Hb]
    · isplitl [Hb] <;> iassumption
    iexact Hst
  imodintro
  isplitl [Hinv]; · iexact Hinv
  iexact Hrest

/-- A device's ghost state from the invariants of all and what is its own. -/
theorem ghost_intro (K : Dev nD × Slot → ℕ) (c : Dev nD) :
    iprop(records m K ∗ ((bigSep Finset.univ fun s : Slot => atPos ER (cell c s) 0 ∅ 0) ∗ payToks c)) ⊢ iprop(∃ K, ghost m K c) := by
  iintro H; iexists K; unfold ghost; iexact H

/-- A persistent fact held beside a family is held beside each member. -/
theorem with_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The invariants of all the devices, shared out to all. -/
theorem share_out :
    (bigSep Finset.univ fun c : Dev nD => iprop((bigSep Finset.univ fun s : Slot => iprop(∃ κ : ℕ, cellInv ER (ringRd m) κ (cell c s)))
        ∗ (bigSep Finset.univ fun s : Slot => atPos ER (cell c s) 0 ∅ 0)
        ∗ (bigSep Finset.univ fun s : Slot => reached ER (cell c s) 0) ∗ payToks c) : sProp 𝕄)
      ⊢ bigSep Finset.univ fun c : Dev nD => iprop(∃ K, ghost m K c) := by
  rw [bigSep_sep', bigSep_sep', bigSep_sep',
    ← bigSep_univ_prod (fun x : Dev nD × Slot => iprop(∃ κ : ℕ, cellInv ER (ringRd m) κ (cell x.1 x.2))),
    ← bigSep_univ_prod (fun x : Dev nD × Slot => (reached ER (cell x.1 x.2) 0 : sProp 𝕄))]
  iintro ⟨HI, Hat, #HR, Htok⟩
  ihave HK := (BI.bigSep_exists_pi Finset.univ (fun (x : Dev nD × Slot) (κ : ℕ) => (cellInv ER (ringRd m) κ (cell x.1 x.2) : sProp 𝕄))) $$ HI
  icases HK with ⟨%K, #HI⟩
  iapply (with_each (R := records m K) fun c => ghost_intro m K c)
  isplitr
  · unfold records; isplitl
    · iexact HI
    · iexact HR
  rw [bigSep_sep']
  isplitl [Hat] <;> iassumption

/-- The whole step from counters to shared invariants. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c : Dev nD => iprop(∃ K, ghost m K c) :=
  ((bigSep_mono fun c _ => alloc m c).trans (bigSep_fupd _ _)).trans (BI.fupd_mono (share_out m))

end Cert.MeanProof

end
-- ==== Proof.Run.lean ====
/-
# The run of the whole program

The kernel is a pipeline of one point with one window, the result. `dats` says what that point is entered with and what it leaves;
`run_main` is the launch on the eight devices.
-/
module

public import proofs.«01_k».proof.Proof.Start
public import Idealize.ShloMosaic.Lib.Pipeline.ValueKit.Geometry
public import Idealize.ShloMosaic.Lib.Pipeline.CollectiveSegs

@[expose] public section

noncomputable section

namespace Cert.MeanProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point -/

/-- The pipeline's data: the arrays' contents at launch, the mean after the point, what the point takes and leaves, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer through its memref is the buffer's points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the point, -/
def pointPre (c : Dev nD) : sProp 𝕄 :=
  iprop(Φ₀ m c ∗ (dats m ρ 0 c).owesAt () t0_0.castSucc
    ∗ ∃ d, ∃ f : Buf (Elt F) ((c : Thread nD τ).loc cc0_stg0_0), ⌜f = (dats m ρ 0 c).before (0 : Fin 1) t0_0 d⌝ ∗ ((c : Thread nD τ).loc cc0_stg0_0) ↦{fullShare} f)
set_option maxRecDepth 4000 in
/-- and what the point gives back. -/
def pointPost (c : Dev nD) : sProp 𝕄 :=
  iprop(Φ₁ m c ∗ (dats m ρ 0 c).owesAt () t0_0.succ
    ∗ ∃ f : Buf (Elt F) ((c : Thread nD τ).loc cc0_stg0_0), ⌜f = outV m⌝ ∗ ((c : Thread nD τ).loc cc0_stg0_0) ↦{fullShare} f)

set_option maxRecDepth 4000 in
/-- The point's post from the body's. -/
theorem pointPost_intro (c : Dev nD) : bodyPost m c ⊢ pointPost m ρ c := by
  unfold bodyPost pointPost owed Dat.owesAt Pipeline.owesWithin
  rw [show (dats m ρ 0 c).owed t0_0.succ = 0 from rfl]
  iintro ⟨HΦ, ⟨%W, HO⟩, Hout⟩
  isplitl [HΦ]; · iexact HΦ
  isplitl [HO]
  · iexists W
    isplitr; · ipureintro; exact fun _ _ => Or.inl trivial
    iexact HO
  iexists (outV m)
  isplitr; · (ipureintro; rfl)
  iexact Hout

set_option maxRecDepth 4000 in
/-- The body's pre from the point's, at some names of the invariants. -/
theorem bodyPre_intro (c : Dev nD) : pointPre m ρ c ⊢ iprop(∃ K, bodyPre m K c) := by
  unfold pointPre bodyPre Φ₀ start owed Dat.owesAt Pipeline.owesWithin
  rw [show (dats m ρ 0 c).owed t0_0.castSucc = O₀ c from rfl]
  iintro ⟨⟨⟨⟨%K, Hg⟩, Hs⟩, Hb, Ht⟩, ⟨%W, -, HO⟩, ⟨%d, %f, -, Hf⟩⟩
  iexists K
  isplitl [Hg Hs]
  · isplitl [Hg] <;> iassumption
  isplitl [Hb]; · iexact Hb
  isplitl [Ht]; · iexact Ht
  isplitl [HO]
  · iexists W; iexact HO
  iexists f; iexact Hf

set_option maxRecDepth 4000 in
/-- The point is the body. -/
theorem body_obligation (c : Dev nD) : BodyObligation (dats (F := F) m ρ 0 c) (defs₀ (F := F)) 𝒱₀ () Set.univ := fun t => by
  rw [fin_N0 t, bigSep_W0, bigSep_W0]
  simp only [owns_whole]
  show pointPre m ρ c ⊢ wpc c
    (cc0_body (Memref.whole main_arg0) (Memref.isWhole_whole _) (Memref.whole cc0_stg0_0) (Memref.isWhole_whole _)
      (Memref.whole cc0_scratch0) (Memref.isWhole_whole _) cc0_scratch1 (Memref.whole cc0_scratch2) (Memref.isWhole_whole _)
      cc0_scratch3 cc0_scratch4) (fun _ => pointPost m ρ c)
  iintro H
  ihave H := (bodyPre_intro m ρ c) $$ H
  icases H with ⟨%K, H⟩
  iapply (sound_body m K c fun _ => pointPost m ρ c)
  isplitl [H]; · iexact H
  iintro H
  iapply (pointPost_intro m ρ c); iexact H

/-! ## What the launch asks for -/

/-- The kernel's own semaphores are its scratch semaphores, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The pipeline's ghost state beside the kernel's. -/
def u₀ : UU :=
  (initOf (Pipeline.cells cfgs cellOf_inj) (Pipeline.launchToks cfgs cellOf_inj), initOf allCells allToks)

/-- What the launch hands a device is the start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ iprop(∃ K, ghost m K c))
      ⊢ |={Set.univ}=> iprop(start m c ∗ emp) := by
  rw [Pipeline.unscopedRestP_none, unscopedRest0_eq]
  iintro ⟨Ha, Hlev, Hcr, -, HG⟩
  ihave Hc := (creds (F := F) c) $$ Hcr
  icases Hc with ⟨H7, HN⟩
  imodintro
  unfold start
  isplitl
  · isplitl [HG]; · iexact HG
    isplitl [Hlev]; · iexact Hlev
    isplitl [H7]; · iexact H7
    isplitl [HN]; · iexact HN
    iexact Ha
  · iempintro

/-- With the scratch buffers it is what the point is entered with. -/
theorem point_enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- What a device keeps past the kernel: its barrier's counter and its argument. -/
def kept (c : Dev nD) : sProp 𝕄 := iprop(unscopedSems0 c ∗ ((c : Thread nD τ).loc main_arg0) ↦{fullShare} arg m c)

/-- What the point leaves is what the launch takes back. -/
theorem point_leave (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, own_eq]
  unfold Φ₁ kept
  rw [unscoped_eq]
  iintro ⟨Ha, Hb, Hx, Hbuf, Htab⟩
  isplitl [Ha Hb]
  · isplitl [Hb] <;> iassumption
  isplitl [Hx]; · iexact Hx
  isplitl [Hbuf]
  · iexists (bufF m c); iexact Hbuf
  · iexists (tabF m); iexact Htab

/-- The pipeline's own waits are allowed at every point. -/
theorem waits (c : Dev nD) : (levAts L lv : sProp 𝕄) ⊢ Pipeline.cellsWaits cfgs (dats m ρ) () 0 c :=
  Pipeline.cellsWaits_intro cfgs (dats m ρ) () 0 c fun w s t => by
    have hl : slev (slotOf (SemLoc.dma ((cfg0.win w).sem s))) = 0 := by fin_cases w <;> fin_cases s <;> decide
    rcases t with ⟨_ | _, ht⟩
    · exact mayWait_O₀ c _ hl
    · exact mayWait c _ 0 fun g u hg => absurd hg (Nat.lt_irrefl 0)

/-- A final state read off what a device keeps. -/
theorem kept_read (c : Dev nD) (s' : Phys nD τ sig (Elt F)) :
    iprop(kept m c ∗ emp ∗ SI s') ⊢ (|={Set.univ}=> iprop(⌜s'.mem.mem ((c : Thread nD τ).loc main_arg0) = arg m c
      ∧ ∀ sm : SemLoc sig, sm.isScoped .tc = false → s'.mem.sem ((c.tc : Thread nD τ), sm) = 0⌝ ∗ SI s') : sProp 𝕄) := by
  unfold kept
  iintro ⟨⟨Hu, Ha⟩, -, HSI⟩
  icombine HSI Ha gives %ha
  imod (Pipeline.unscopedSems0_read (X := unscopedSems0 c) (c := c) fupd_intro s') $$ [Hu HSI] with ⟨%hs, HSI⟩
  · isplitl [Hu] <;> iassumption
  imodintro
  isplitr
  · ipureintro; exact ⟨funext fun i => ha i (Finset.mem_univ i), hs⟩
  iexact HSI

/-- The result array is written back once, whole. -/
theorem result_eq (c : Dev nD) : (dats m ρ 0 c).arrAt (0 : Fin 1) cfg0.N = outV m :=
  (dats m ρ 0 c).arrAt_eq_of_after_last (0 : Fin 1) t0_0 (by decide +kernel) _ fun j => rfl

set_option maxRecDepth 8000 in
/-- On eight devices, over any float values, from any memory with zero counters: every fair execution of the program ends, with
    the result on every device the scaled sum of the table of the devices' sums, the argument as it was and every counter zero. -/
theorem run_main : θ_run defs (onTc (τ := τ) (main (F := F))) (s₀ m ρ) (fun r =>
    (∀ c : Dev nD, r.2.mem ((c : Thread nD τ).loc main_v1) = outV m ∧ r.2.mem ((c : Thread nD τ).loc main_arg0) = arg m c)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := point_enter m ρ) (hout := point_leave m ρ)
    (QY := fun c s => s.mem ((c : Thread nD τ).loc main_arg0) = arg m c
      ∧ ∀ sm : SemLoc sig, sm.isScoped .tc = false → s.sem ((c.tc : Thread nD τ), sm) = 0)
    (hY := kept_read m)
    (hQ := fun _ h hs => ⟨fun c => ⟨((h c).1 (0 : Fin 1)).trans (result_eq m ρ c), (h c).2.2.1⟩, sem_eq_zero hs fun c => (h c).2.2.2⟩)

end Cert.MeanProof

end
-- ==== Proof.Value.lean ====
/-
# The value

At the ideal values the sum a device keeps of its rows is the sum of its rows, and the eight such sums, scaled, are the mean over
the rows of the whole array. The kernel multiplies by 2⁻¹⁵ where the reference divides by 32768; both numbers are exact.
-/
module

public import proofs.«01_k».proof.Proof.Protocol
public import proofs.«01_k».proof.Proof.Gen.ReferenceIdeal.Run
public import Idealize.ShloMosaic.Lib.Layout
public import Idealize.ShloMosaic.Lib.Pointwise
public import Idealize.ShloMosaic.PureOps.Ideal.Laws

@[expose] public section

noncomputable section

namespace Cert.MeanProof

open Cert.KernelIdeal Cert.KernelIdeal.Gen
open Idealize.ShloMosaic Idealize.ShloMosaic.TcCoe

variable (m : (ℓ : Loc nD τ sig) → Buf (Elt Ideal) ℓ)

/-- Row `r` of device `c`'s argument at column `y`. -/
def row (c : Dev nD) (r : Fin 4096) (y : Fin 1024) : EReal := arg m c (ix2 r y)

/-- The row a slot's row is. -/
def slotRow (i : Fin 8) (x : Fin 512) : Fin 4096 := ⟨i.val * 512 + x.val, by have := i.isLt; have := x.isLt; omega⟩

/-- What a load of a slot reads. -/
theorem slotVal_apply (c : Dev nD) (i : Fin 8) (a : Fin 1) (x : Fin 512) (y : Fin 1024) :
    slotVal m c i (ix3 a x y) = row m c (slotRow i x) y := by
  have ha : a.val = 0 := by have := a.isLt; omega
  unfold slotVal row
  refine congrArg (arg m c) (funext fun b => Fin.ext ?_)
  match b with
  | ⟨0, _⟩ =>
    show 512 * (i.val + 1 * a.val) + 1 * (0 + 1 * x.val) = i.val * 512 + x.val
    omega
  | ⟨1, _⟩ =>
    show 0 + 1 * (0 + 1 * y.val) = y.val
    omega

/-- A slot's sum at column `y`. -/
def slotSum (c : Dev nD) (i : Fin 8) (y : Fin 1024) : EReal := ∑ x : Fin 512, row m c (slotRow i x) y

/-- The sum of the slot's rows, as the kernel takes it. -/
theorem pay5_apply (c : Dev nD) (i : Fin 8) (y : Fin 1024) : k0_pay5 (slotVal m c i) (ix2 (0 : Fin 1) y) = slotSum m c i y := by
  unfold k0_pay5 slotSum
  simp only [pointwise, slotVal_apply]

/-- The eight slots' sums, in the order the kernel adds them. -/
theorem acc_apply (c : Dev nD) (y : Fin 1024) : acc m c (ix3 (0 : Fin 1) (0 : Fin 1) y) = ∑ i : Fin 8, slotSum m c i y := by
  unfold acc k0_pay6 k0_pay5 k0_pay4 k0_pay3 k0_pay2
  rw [Fin.sum_univ_eight]
  unfold slotSum
  simp only [pointwise, slotVal_apply, Ideal.ofBits_zero_f32, zero_add]

/-- The result at column `y`: the sum over the devices, times the word the kernel scales by. -/
theorem outV_apply (y : Fin 1024) : outV m (ix2 (0 : Fin 1) y)
    = (∑ c : Fin 8, ∑ i : Fin 8, slotSum m c i y) * Ideal.ofBits .f32 0x38000000#32 := by
  have ht (c : Fin 8) (a : Fin 1) : tabF m (ix3 c a y) = ∑ i : Fin 8, slotSum m c i y := acc_apply m c y
  unfold outV k0_pay1
  simp only [pointwise, ht]

/-! ## The reference -/

/-- Row `r` of the whole array at column `y`, -/
abbrev wholeRow (X : FVec Ideal ⟨2, ![32768, 1024]⟩ .f32) (r : Fin 32768) (y : Fin 1024) : EReal := X (ix2 r y)

/-- and the reference's result as a function of the whole array. -/
abbrev refOut (X : FVec Ideal ⟨2, ![32768, 1024]⟩ .f32) : FVec Ideal Cert.ReferenceIdeal.S1x1024 .f32 :=
  Host.divf (broadcastInDim Cert.ReferenceIdeal.S1x1024 ![1] Cert.ReferenceIdeal.Facts₀.bcast_S1024_S1x1024_1
      (Host.reduceAdd X (constant Cert.ReferenceIdeal.S_ .f32 0x00000000#32) Cert.ReferenceIdeal.Facts₀.reducesTo_S32768x1024_S1024_d0
        Cert.ReferenceIdeal.Facts₀.h_S_))
    (broadcastInDim Cert.ReferenceIdeal.S1x1024 ![] Cert.ReferenceIdeal.Facts₀.bcast_S_S1x1024 (constant Cert.ReferenceIdeal.S_ .f32 0x47000000#32))

/-- The reference's result at a column is the sum of the column divided by 32768. -/
theorem refOut_apply (X : FVec Ideal ⟨2, ![32768, 1024]⟩ .f32) (y : Fin 1024) :
    refOut X (ix2 (0 : Fin 1) y) = Ideal.div (∑ r : Fin 32768, wholeRow X r y) (Ideal.ofBits .f32 0x47000000#32) := by
  unfold refOut wholeRow
  simp only [pointwise, Ideal.ofBits_zero_f32, zero_add]
  rfl

/-! ## The two agree -/

/-- The kernel's scale is 1/32768. -/
theorem scale_eq : Ideal.ofBits .f32 0x38000000#32 = (((32768 : ℝ)⁻¹ : ℝ) : EReal) := by
  simp [Ideal.ofBits, Ideal.ieee, -EReal.coe_mul]; norm_num
/-- The reference's divisor is 32768. -/
theorem divisor_eq : Ideal.ofBits .f32 0x47000000#32 = ((32768 : ℝ) : EReal) := by
  simp [Ideal.ofBits, Ideal.ieee, -EReal.coe_mul]; norm_num

/-- Multiplying by the one is dividing by the other, whatever the sum is. -/
theorem scale_div (x : EReal) : x * Ideal.ofBits .f32 0x38000000#32 = Ideal.div x (Ideal.ofBits .f32 0x47000000#32) := by
  rw [scale_eq, divisor_eq]
  unfold Ideal.div
  rw [if_neg (EReal.coe_ne_zero.mpr (by norm_num)), EReal.coe_inv]

/-- The whole array's rows are the devices' slots' rows. -/
theorem rows_split (X : FVec Ideal ⟨2, ![32768, 1024]⟩ .f32)
    (h : ∀ c : Dev nD, arg m c = Layout.block ⟨2, ![4096, 1024]⟩ ⟨2, ![32768, 1024]⟩ 0 8 c X) (y : Fin 1024) :
    (∑ c : Fin 8, ∑ i : Fin 8, slotSum m c i y) = ∑ r : Fin 32768, wholeRow X r y := by
  rw [Fin.sum_univ_tiles 8 4096 rfl]
  refine Finset.sum_congr rfl fun c _ => ?_
  rw [Fin.sum_univ_tiles 8 512 rfl]
  refine Finset.sum_congr rfl fun i _ => Finset.sum_congr rfl fun x _ => ?_
  unfold row
  rw [h c, Layout.block_apply]
  refine congrArg X (funext fun b => Fin.ext ?_)
  match b with
  | ⟨0, _⟩ => rfl
  | ⟨1, _⟩ => rfl

/-- The kernel's result is the reference's. -/
theorem out_eq (X : FVec Ideal ⟨2, ![32768, 1024]⟩ .f32)
    (h : ∀ c : Dev nD, arg m c = Layout.block ⟨2, ![4096, 1024]⟩ ⟨2, ![32768, 1024]⟩ 0 8 c X) : outV m = refOut X := by
  funext j
  obtain ⟨a, y, rfl⟩ : ∃ (a : Fin 1) (y : Fin 1024), j = ix2 a y := ⟨j 0, j 1, funext fun b => by
    match b with | ⟨0, _⟩ => rfl | ⟨1, _⟩ => rfl⟩
  obtain rfl : a = 0 := Subsingleton.elim _ _
  rw [outV_apply, refOut_apply, rows_split m X h, scale_div]

end Cert.MeanProof

end
-- ==== Proof.lean ====
/-
# The claims

The kernel's run (`Run.lean`, over any float values) and the value of its result (`Value.lean`), put together as the five claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- Over any float values the kernel's text ends with its argument as it was and every counter zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c : Thread Cert.KernelIdeal.nD Cert.KernelIdeal.τ).loc Cert.KernelIdeal.main_arg0)
          = m ((c : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.MeanProof.run_main m ρ)

/-- The body table of the kernel as compiled is that of the text read at the ideal values: the same words at every label. -/
theorem bodies_eq : Cert.Kernel.defs₀ (F := Bits) = Cert.KernelIdeal.defs₀ (F := Bits) := by
  unfold Cert.Kernel.defs₀ Cert.KernelIdeal.defs₀
  congr 1
  funext a b
  match a, b with
  | 0, (t, s) => rfl
  | ⟨_ + 1, h⟩, _ => exact absurd h (Nat.not_lt.2 (Nat.le_add_left _ _))

/-- So is the table with the region and the pipeline added. -/
theorem defs_eq : Cert.Kernel.defs (F := Bits) = Cert.KernelIdeal.defs (F := Bits) :=
  congrArg (Pipeline.defs Cert.KernelIdeal.pcfgs) bodies_eq

/-- The kernel as compiled, over machine floats. -/
theorem frame_kernel : Cert.quiescent_Kernel := fun m ρ _ => by
  rw [defs_eq]
  exact frame_run (F := Bits) m ρ

/-- The kernel over the extended reals. -/
theorem frame_ideal : Cert.quiescent_KernelIdeal := fun m ρ _ => frame_run (F := Ideal) m ρ

/-- The reference ends with its argument as it was; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the row blocks of one array, every device ends with the reference's mean over all its rows. -/
theorem value : Cert.algebraic_KernelIdeal_ReferenceIdeal := fun m ρ m' ρ' _ hX =>
  ⟨Cert.MeanProof.refOut (m' (((0 : Dev Cert.ReferenceIdeal.nD) : Thread Cert.ReferenceIdeal.nD Cert.ReferenceIdeal.τ).loc Cert.ReferenceIdeal.main_arg0)),
    (θ_run Cert.KernelIdeal.defs _ _).mono
      (fun _ h c => ⟨(h.1 c).1.trans (Cert.MeanProof.out_eq m _ hX), (h.1 c).2⟩) (Cert.MeanProof.run_main (F := Ideal) m ρ),
    (θ_run Cert.ReferenceIdeal.defs _ _).mono (fun _ h => h 0) (Cert.ReferenceIdeal.Value.run (F := Ideal) m' ρ')⟩

/-- All that is claimed. -/
theorem claim : Cert.Claim :=
  ⟨Cert.Kernel.Gen.facts, Cert.KernelIdeal.Gen.facts, Cert.ReferenceIdeal.Gen.facts,
    frame_kernel, frame_ideal, frame_reference, trivial, value⟩

end Cert.Proof

end
